-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_hard_negatives_clear [hPre_hard_negatives_clear : Cert.Pre_hard_negatives_clear.Facts] (m : (ℓ : Loc Cert.KernelIdeal.nD Cert.KernelIdeal.τ Cert.KernelIdeal.sig) → Buf (Elt Ideal) ℓ) : Prop :=
  ∀ c : Dev Cert.KernelIdeal.nD,
    (Cert.Pre_hard_negatives_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_hard_negatives_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_hard_negatives_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_hard_negatives_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 = (fun _ => 1#1)
    ∧ (Cert.Pre_hard_negatives_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_hard_negatives_clear [hPre_hard_negatives_clear : Cert.Pre_hard_negatives_clear.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_hard_negatives_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_hard_negatives_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_hard_negatives_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_hard_negatives_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.1 = (fun _ => 1#1)
    ∧ (Cert.Pre_hard_negatives_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_hard_negatives_clear [hKernelIdeal : Cert.KernelIdeal.Facts] [hPre_hard_negatives_clear : Cert.Pre_hard_negatives_clear.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_hard_negatives_clear m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_hard_negatives_clear [hReferenceIdeal : Cert.ReferenceIdeal.Facts] [hPre_hard_negatives_clear : Cert.Pre_hard_negatives_clear.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_hard_negatives_clear m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "scale" .f32 0x41A4E123#32 (((Real.log 2)⁻¹ * (100 / 7) : ℝ) : EReal)

def algebraic_KernelIdeal_ReferenceIdeal_pre_hard_negatives_clear [hKernelIdeal : Cert.KernelIdeal.Facts] [hReferenceIdeal : Cert.ReferenceIdeal.Facts] [hPre_hard_negatives_clear : Cert.Pre_hard_negatives_clear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_hard_negatives_clear m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_hard_negatives_clear : Cert.Pre_hard_negatives_clear.Facts),
    quiescent_Kernel (hKernel := hKernel)
    ∧ quiescent_KernelIdeal (hKernelIdeal := hKernelIdeal)
    ∧ quiescent_KernelIdeal_pre_hard_negatives_clear (hKernelIdeal := hKernelIdeal) (hPre_hard_negatives_clear := hPre_hard_negatives_clear)
    ∧ quiescent_ReferenceIdeal (hReferenceIdeal := hReferenceIdeal)
    ∧ quiescent_ReferenceIdeal_pre_hard_negatives_clear (hReferenceIdeal := hReferenceIdeal) (hPre_hard_negatives_clear := hPre_hard_negatives_clear)
    ∧ preserves_Kernel_KernelIdeal
    ∧ algebraic_KernelIdeal_ReferenceIdeal_pre_hard_negatives_clear (hKernelIdeal := hKernelIdeal) (hReferenceIdeal := hReferenceIdeal) (hPre_hard_negatives_clear := hPre_hard_negatives_clear)
-- ==== Pre_hard_negatives_clear.lean ====
abbrev S4096x512 : Shape := ⟨2, ![4096, 512]⟩
abbrev S512x4096 : Shape := ⟨2, ![512, 4096]⟩
abbrev S4096x4096 : Shape := ⟨2, ![4096, 4096]⟩
abbrev S_ : Shape := ⟨0, ![]⟩
abbrev S4096x5 : Shape := ⟨2, ![4096, 5]⟩
abbrev S4096x1 : Shape := ⟨2, ![4096, 1]⟩
abbrev S4096 : Shape := ⟨1, ![4096]⟩
abbrev S4096x4 : Shape := ⟨2, ![4096, 4]⟩

class Facts : Prop where
  transposes_S4096x512_S512x4096_1_0 : S4096x512.Transposes [1, 0] S512x4096
  bcast_S_S4096x4096 : S_.BroadcastsInDim S4096x4096 (![] : Fin 0 → Fin S4096x4096.rank)
  sliceFits_S4096x4096_S4096x5 : S4096x4096.Slices (fun _ => 0) S4096x5
  slices_S4096x5_S4096x1_0_0 : S4096x5.Slices ![0, 0] S4096x1
  shapeCasts_S4096x1_S4096 : S4096x1.ShapeCasts S4096
  bcast_S_S4096 : S_.BroadcastsInDim S4096 (![] : Fin 0 → Fin S4096.rank)
  slices_S4096x5_S4096x1_0_1 : S4096x5.Slices ![0, 1] S4096x1
  slices_S4096x5_S4096x1_0_2 : S4096x5.Slices ![0, 2] S4096x1
  slices_S4096x5_S4096x1_0_3 : S4096x5.Slices ![0, 3] S4096x1
  bcast_S_S4096x512 : S_.BroadcastsInDim S4096x512 (![] : Fin 0 → Fin S4096x512.rank)
  slices_S4096x5_S4096x4_0_0 : S4096x5.Slices ![0, 0] S4096x4
  slices_S4096x5_S4096x4_0_1 : S4096x5.Slices ![0, 1] S4096x4
  dot_S4096x512_S512x4096_S4096x4096_1_0_0_1_n_n_wf : DotDims.WF S4096x512 S512x4096 S4096x4096 [1] [0] [0] [1] [] []

variable [Facts]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def fn_where {F : FTy → Type} [FloatOps F] (arg0 : IVec S4096x4096 1) (arg1 : FVec F S_ .f32) (arg2 : FVec F S4096x4096 .f32) : FVec F S4096x4096 .f32 :=
  let v0 : FVec F S_ .f32 := id arg1
  let v1 : FVec F S4096x4096 .f32 := broadcastInDim S4096x4096 ![] bcast_S_S4096x4096 v0
  let v2 : FVec F S4096x4096 .f32 := select arg0 v1 arg2
  v2

def fn_part2 {F : FTy → Type} [FloatOps F] (main_values : FVec F S4096x5 .f32) (main_v15 : IVec S4096 32) (main_v19 : IVec S4096 32) (main_v23 : IVec S4096 32) (main_v27 : IVec S4096 32) (main_v30 : IVec S4096x512 1) (main_v33 : IVec S4096x512 1) (main_v34 : FVec F S4096x4 .f32) (main_v35 : FVec F S4096x4 .f32) : IVec S4096x512 1 × IVec S4096x512 1 × IVec S4096x4 1 × IVec S4096 1 × IVec S4096 1 :=
  let main_v36 : IVec S4096x4 1 := cmpf .ogt main_v34 main_v35
  let main_v37 : FVec F S4096x1 .f32 := (extractStridedSlice S4096x1 ![0, 3] · slices_S4096x5_S4096x1_0_3) main_values
  let main_v38 : FVec F S4096 .f32 := shapeCast S4096 main_v37 shapeCasts_S4096x1_S4096
  let main_cst_8 : FVec F S_ .f32 := constant S_ .f32 0xCE6E6B28#32
  let main_v39 : FVec F S4096 .f32 := broadcastInDim S4096 ![] bcast_S_S4096 main_cst_8
  let main_v40 : IVec S4096 1 := cmpf .ogt main_v38 main_v39
  let main_v41 : IVec S4096 1 := cmpi .ne main_v15 main_v19
  let main_v42 : IVec S4096 1 := cmpi .ne main_v19 main_v23
  let main_v43 : IVec S4096 1 := ori main_v41 main_v42
  let main_v44 : IVec S4096 1 := cmpi .ne main_v15 main_v19
  let main_v45 : IVec S4096 1 := cmpi .ne main_v19 main_v27
  let main_v46 : IVec S4096 1 := ori main_v44 main_v45
  let main_v47 : IVec S4096 1 := andi main_v43 main_v46
  let main_v48 : IVec S4096 1 := cmpi .ne main_v15 main_v23
  let main_v49 : IVec S4096 1 := cmpi .ne main_v23 main_v27
  let main_v50 : IVec S4096 1 := ori main_v48 main_v49
  let main_v51 : IVec S4096 1 := andi main_v47 main_v50
  let main_v52 : IVec S4096 1 := cmpi .ne main_v19 main_v23
  let main_v53 : IVec S4096 1 := cmpi .ne main_v23 main_v27
  let main_v54 : IVec S4096 1 := ori main_v52 main_v53
  let main_v55 : IVec S4096 1 := andi main_v51 main_v54
  (main_v30, main_v33, main_v36, main_v40, main_v55)

def fn_part1 {F : FTy → Type} [FloatOps F] (main_arg0 : FVec F S4096x512 .f32) (main_arg1 : FVec F S4096x512 .f32) (main_values : FVec F S4096x5 .f32) (main_indices : IVec S4096x5 32) (main_v15 : IVec S4096 32) (main_v16 : IVec S4096x1 32) : IVec S4096x512 1 × IVec S4096x512 1 × IVec S4096x4 1 × IVec S4096 1 × IVec S4096 1 :=
  let main_v17 : IVec S4096 32 := shapeCast S4096 main_v16 shapeCasts_S4096x1_S4096
  let main_c_3 : IVec S_ 32 := constantI S_ 32 127#32
  let main_v18 : IVec S4096 32 := broadcastInDim S4096 ![] bcast_S_S4096 main_c_3
  let main_v19 : IVec S4096 32 := andi main_v17 main_v18
  let main_v20 : IVec S4096x1 32 := (extractStridedSlice S4096x1 ![0, 2] · slices_S4096x5_S4096x1_0_2) main_indices
  let main_v21 : IVec S4096 32 := shapeCast S4096 main_v20 shapeCasts_S4096x1_S4096
  let main_c_4 : IVec S_ 32 := constantI S_ 32 127#32
  let main_v22 : IVec S4096 32 := broadcastInDim S4096 ![] bcast_S_S4096 main_c_4
  let main_v23 : IVec S4096 32 := andi main_v21 main_v22
  let main_v24 : IVec S4096x1 32 := (extractStridedSlice S4096x1 ![0, 3] · slices_S4096x5_S4096x1_0_3) main_indices
  let main_v25 : IVec S4096 32 := shapeCast S4096 main_v24 shapeCasts_S4096x1_S4096
  let main_c_5 : IVec S_ 32 := constantI S_ 32 127#32
  let main_v26 : IVec S4096 32 := broadcastInDim S4096 ![] bcast_S_S4096 main_c_5
  let main_v27 : IVec S4096 32 := andi main_v25 main_v26
  let main_v28 : FVec F S4096x512 .f32 := Host.absf main_arg0
  let main_cst_6 : FVec F S_ .f32 := constant S_ .f32 0x7F800000#32
  let main_v29 : FVec F S4096x512 .f32 := broadcastInDim S4096x512 ![] bcast_S_S4096x512 main_cst_6
  let main_v30 : IVec S4096x512 1 := cmpf .olt main_v28 main_v29
  let main_v31 : FVec F S4096x512 .f32 := Host.absf main_arg1
  let main_cst_7 : FVec F S_ .f32 := constant S_ .f32 0x7F800000#32
  let main_v32 : FVec F S4096x512 .f32 := broadcastInDim S4096x512 ![] bcast_S_S4096x512 main_cst_7
  let main_v33 : IVec S4096x512 1 := cmpf .olt main_v31 main_v32
  let main_v34 : FVec F S4096x4 .f32 := (extractStridedSlice S4096x4 ![0, 0] · slices_S4096x5_S4096x4_0_0) main_values
  let main_v35 : FVec F S4096x4 .f32 := (extractStridedSlice S4096x4 ![0, 1] · slices_S4096x5_S4096x4_0_1) main_values
  fn_part2 (F := F) main_values main_v15 main_v19 main_v23 main_v27 main_v30 main_v33 main_v34 main_v35

def fn {F : FTy → Type} [FloatOps F] (main_arg0 : FVec F S4096x512 .f32) (main_arg1 : FVec F S4096x512 .f32) : IVec S4096x512 1 × IVec S4096x512 1 × IVec S4096x4 1 × IVec S4096 1 × IVec S4096 1 :=
  let main_v0 : FVec F S512x4096 .f32 := (transpose S512x4096 [1, 0] · transposes_S4096x512_S512x4096_1_0) main_arg1
  let main_v1 : FVec F S4096x4096 .f32 := (fun l r => Host.dotGeneral dot_S4096x512_S512x4096_S4096x4096_1_0_0_1_n_n none l r) main_arg0 main_v0
  let main_cst : FVec F S_ .f32 := constant S_ .f32 0x42C80000#32
  let main_v2 : FVec F S4096x4096 .f32 := broadcastInDim S4096x4096 ![] bcast_S_S4096x4096 main_cst
  let main_v3 : FVec F S4096x4096 .f32 := mulf main_v1 main_v2
  let main_cst_0 : FVec F S_ .f32 := constant S_ .f32 0x40E00000#32
  let main_v4 : FVec F S4096x4096 .f32 := broadcastInDim S4096x4096 ![] bcast_S_S4096x4096 main_cst_0
  let main_v5 : FVec F S4096x4096 .f32 := Host.divf main_v3 main_v4
  let main_v6 : IVec S4096x4096 32 := iotaInDim S4096x4096 32 0
  let main_v7 : IVec S4096x4096 32 := iotaInDim S4096x4096 32 1
  let main_c : IVec S_ 32 := constantI S_ 32 0#32
  let main_v8 : IVec S4096x4096 32 := broadcastInDim S4096x4096 ![] bcast_S_S4096x4096 main_c
  let main_v9 : IVec S4096x4096 32 := addi main_v6 main_v8
  let main_v10 : IVec S4096x4096 1 := cmpi .eq main_v9 main_v7
  let main_cst_1 : FVec F S_ .f32 := constant S_ .f32 0xCE6E6B28#32
  let main_v11 : FVec F S4096x4096 .f32 := fn_where (F := F) main_v10 main_cst_1 main_v5
  let main_values : FVec F S4096x5 .f32 := (fun x => (Host.topK S4096x5 1 (FloatOps.cmpfTotal .gt) x sliceFits_S4096x4096_S4096x5).1) main_v11
  let main_indices : IVec S4096x5 32 := (fun x => (Host.topK S4096x5 1 (FloatOps.cmpfTotal .gt) x sliceFits_S4096x4096_S4096x5).2) main_v11
  let main_v12 : IVec S4096x1 32 := (extractStridedSlice S4096x1 ![0, 0] · slices_S4096x5_S4096x1_0_0) main_indices
  let main_v13 : IVec S4096 32 := shapeCast S4096 main_v12 shapeCasts_S4096x1_S4096
  let main_c_2 : IVec S_ 32 := constantI S_ 32 127#32
  let main_v14 : IVec S4096 32 := broadcastInDim S4096 ![] bcast_S_S4096 main_c_2
  let main_v15 : IVec S4096 32 := andi main_v13 main_v14
  let main_v16 : IVec S4096x1 32 := (extractStridedSlice S4096x1 ![0, 1] · slices_S4096x5_S4096x1_0_1) main_indices
  fn_part1 (F := F) main_arg0 main_arg1 main_values main_indices main_v15 main_v16
-- ==== Kernel.lean ====
abbrev S4096x512 : Shape := ⟨2, ![4096, 512]⟩
abbrev S1x128 : Shape := ⟨2, ![1, 128]⟩
abbrev S256x512 : Shape := ⟨2, ![256, 512]⟩
abbrev S1x4096 : Shape := ⟨2, ![1, 4096]⟩
abbrev S256x4096 : Shape := ⟨2, ![256, 4096]⟩
abbrev S256x256 : Shape := ⟨2, ![256, 256]⟩
abbrev S256 : Shape := ⟨1, ![256]⟩
abbrev S1x256 : Shape := ⟨2, ![1, 256]⟩
abbrev S32x128 : Shape := ⟨2, ![32, 128]⟩
abbrev S256x1 : Shape := ⟨2, ![256, 1]⟩
abbrev S1x1x256 : Shape := ⟨3, ![1, 1, 256]⟩
abbrev S1 : Shape := ⟨1, ![1]⟩
abbrev S1x1x1 : Shape := ⟨3, ![1, 1, 1]⟩
abbrev S1x1 : Shape := ⟨2, ![1, 1]⟩
abbrev S1x1x4096 : Shape := ⟨3, ![1, 1, 4096]⟩
abbrev S1x1x128 : Shape := ⟨3, ![1, 1, 128]⟩

abbrev nBuf : Space → Nat
  | .hbm => 3
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S4096x512, .f32⟩
  | .local _ .vmem, ⟨3, _⟩ => ⟨S1x128, .f32⟩
  | .local _ .vmem, ⟨4, _⟩ => ⟨S1x4096, .f32⟩
  | .local _ .vmem, ⟨5, _⟩ => ⟨S1x128, .f32⟩
  | .local _ .vmem, ⟨6, _⟩ => ⟨S256x4096, .bf16⟩
  | .local _ .vmem, ⟨7, _⟩ => ⟨S4096x512, .bf16⟩
  | .local _ .vmem, ⟨8, _⟩ => ⟨S256x256, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_7 : Index := 0#32
  let arg0 : BitVec 32 := BitVec.ofNat 32 (i 0).val
  let c256_i32 : BitVec 32 := 256#32
  let v14 : BitVec 32 := Scalar.muli arg0 c256_i32
  let v15 : Index := Scalar.indexCast v14
  ![0, v15.toNat]
def k0_off2 (i : grid0.Coords) : Fin 2 → Nat :=
  let c0_558 : Index := 0#32
  let arg0 : BitVec 32 := BitVec.ofNat 32 (i 0).val
  let c256_i32 : BitVec 32 := 256#32
  let v14 : BitVec 32 := Scalar.muli arg0 c256_i32
  let v1172 : Index := Scalar.indexCast v14
  ![0, v1172.toNat]
def k0_cond4 (i : grid0.Coords) : BitVec 1 :=
  let arg0 : BitVec 32 := BitVec.ofNat 32 (i 0).val
  let c15_i32 : BitVec 32 := 15#32
  let v1179 : BitVec 1 := Scalar.cmpi .eq arg0 c15_i32
  let v1180 : BitVec 32 := Scalar.extui v1179
  let c0_i32_560 : BitVec 32 := 0#32
  let v1181 : BitVec 1 := Scalar.cmpi .ne v1180 c0_i32_560
  v1181

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "scale" => some (((Real.log 2)⁻¹ * (100 / 7) : ℝ) : EReal)
  | _ => none
-- ==== ReferenceIdeal.lean ====
abbrev S4096x512 : Shape := ⟨2, ![4096, 512]⟩
abbrev S512x4096 : Shape := ⟨2, ![512, 4096]⟩
abbrev S4096x4096 : Shape := ⟨2, ![4096, 4096]⟩
abbrev S_ : Shape := ⟨0, ![]⟩
abbrev S4096 : Shape := ⟨1, ![4096]⟩
abbrev S4096x4 : Shape := ⟨2, ![4096, 4]⟩
abbrev S4096x1 : Shape := ⟨2, ![4096, 1]⟩
abbrev S4096x4x1 : Shape := ⟨3, ![4096, 4, 1]⟩
abbrev S4096x4x2 : Shape := ⟨3, ![4096, 4, 2]⟩
abbrev S4096x2 : Shape := ⟨2, ![4096, 2]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096, .i32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4, .f32⟩
  | .hbm, ⟨22, _⟩ => ⟨S4096x4, .i32⟩
  | .hbm, ⟨23, _⟩ => ⟨S_, .f32⟩
  | .hbm, ⟨24, _⟩ => ⟨S4096x4096, .f32⟩
  | .hbm, ⟨25, _⟩ => ⟨S4096, .i32⟩
  | .hbm, ⟨26, _⟩ => ⟨S4096x1, .i32⟩
  | .hbm, ⟨27, _⟩ => ⟨S4096x4, .i32⟩
  | .hbm, ⟨28, _⟩ => ⟨S_, .i32⟩
  | .hbm, ⟨29, _⟩ => ⟨S4096x4, .i32⟩
  | .hbm, ⟨30, _⟩ => ⟨S4096x4, .i1⟩
  | .hbm, ⟨31, _⟩ => ⟨S_, .i32⟩
  | .hbm, ⟨32, _⟩ => ⟨S4096x4, .i32⟩
  | .hbm, ⟨33, _⟩ => ⟨S4096x4, .i32⟩
  | .hbm, ⟨34, _⟩ => ⟨S4096x4, .i32⟩
  | .hbm, ⟨35, _⟩ => ⟨S_, .i32⟩
  | .hbm, ⟨36, _⟩ => ⟨S4096x4, .i32⟩
  | .hbm, ⟨37, _⟩ => ⟨S4096x4, .i1⟩
  | .hbm, ⟨38, _⟩ => ⟨S_, .i32⟩
  | .hbm, ⟨39, _⟩ => ⟨S4096x4, .i32⟩
  | .hbm, ⟨40, _⟩ => ⟨S4096x4, .i32⟩
  | .hbm, ⟨41, _⟩ => ⟨S4096x4, .i32⟩
  | .hbm, ⟨42, _⟩ => ⟨S4096x4x1, .i32⟩
  | .hbm, ⟨43, _⟩ => ⟨S4096x4x1, .i32⟩
  | .hbm, ⟨44, _⟩ => ⟨S4096x4x2, .i32⟩
  | .hbm, ⟨45, _⟩ => ⟨S_, .f32⟩
  | .hbm, ⟨46, _⟩ => ⟨S4096x4, .f32⟩
  | .hbm, ⟨47, _⟩ => ⟨S4096x4096, .f32⟩
  | .hbm, ⟨48, _⟩ => ⟨S_, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S_, .i32⟩
  | .hbm, ⟨68, _⟩ => ⟨S4096, .i32⟩
  | .hbm, ⟨69, _⟩ => ⟨S4096, .i1⟩
  | .hbm, ⟨70, _⟩ => ⟨S_, .i32⟩
  | .hbm, ⟨71, _⟩ => ⟨S4096, .i32⟩
  | .hbm, ⟨72, _⟩ => ⟨S4096, .i32⟩
  | .hbm, ⟨73, _⟩ => ⟨S4096, .i32⟩
  | .hbm, ⟨74, _⟩ => ⟨S4096x1, .i32⟩
  | .hbm, ⟨75, _⟩ => ⟨S4096x1, .i32⟩
  | .hbm, ⟨76, _⟩ => ⟨S4096x2, .i32⟩
  | .hbm, ⟨77, _⟩ => ⟨S4096, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S4096x4096, .f32⟩
  | .hbm, ⟨84, _⟩ => ⟨S4096x4096, .f32⟩
  | .hbm, ⟨85, _⟩ => ⟨S4096x4096, .f32⟩
  | .hbm, ⟨86, _⟩ => ⟨S4096x4096, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x4096, .f32⟩
  | .hbm, ⟨91, _⟩ => ⟨S4096x4096, .f32⟩
  | .hbm, ⟨92, _⟩ => ⟨S4096x4096, .f32⟩
  | .hbm, ⟨93, _⟩ => ⟨S_, .i32⟩
  | .hbm, ⟨94, _⟩ => ⟨S4096, .i32⟩
  | .hbm, ⟨95, _⟩ => ⟨S4096, .i1⟩
  | .hbm, ⟨96, _⟩ => ⟨S_, .i32⟩
  | .hbm, ⟨97, _⟩ => ⟨S4096, .i32⟩
  | .hbm, ⟨98, _⟩ => ⟨S4096, .i32⟩
  | .hbm, ⟨99, _⟩ => ⟨S4096, .i32⟩
  | .hbm, ⟨100, _⟩ => ⟨S_, .i32⟩
  | .hbm, ⟨101, _⟩ => ⟨S4096, .i32⟩
  | .hbm, ⟨102, _⟩ => ⟨S4096, .i1⟩
  | .hbm, ⟨103, _⟩ => ⟨S_, .i32⟩
  | .hbm, ⟨104, _⟩ => ⟨S4096, .i32⟩
  | .hbm, ⟨105, _⟩ => ⟨S4096, .i32⟩
  | .hbm, ⟨106, _⟩ => ⟨S4096, .i32⟩
  | .hbm, ⟨107, _⟩ => ⟨S4096x1, .i32⟩
  | .hbm, ⟨108, _⟩ => ⟨S4096x1, .i32⟩
  | .hbm, ⟨109, _⟩ => ⟨S4096x2, .i32⟩
  | .hbm, ⟨110, _⟩ => ⟨S4096, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S1x128, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_call1_v0 : Ref sig .tc := ⟨.hbm, 49, rfl⟩
abbrev main_call1_v1 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_c_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_12 : Ref sig .tc := ⟨.hbm, 67, rfl⟩
abbrev main_v45 : Ref sig .tc := ⟨.hbm, 68, rfl⟩
abbrev main_v46 : Ref sig .tc := ⟨.hbm, 69, rfl⟩
abbrev main_c_13 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_14 : Ref sig .tc := ⟨.hbm, 78, rfl⟩
abbrev main_v54 : Ref sig .tc := ⟨.hbm, 79, rfl⟩
abbrev main_cst_15 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_16 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_17 : Ref sig .tc := ⟨.hbm, 93, rfl⟩
abbrev main_v66 : Ref sig .tc := ⟨.hbm, 94, rfl⟩
abbrev main_v67 : Ref sig .tc := ⟨.hbm, 95, rfl⟩
abbrev main_c_18 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_19 : Ref sig .tc := ⟨.hbm, 100, rfl⟩
abbrev main_v71 : Ref sig .tc := ⟨.hbm, 101, rfl⟩
abbrev main_v72 : Ref sig .tc := ⟨.hbm, 102, rfl⟩
abbrev main_c_20 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_21 : Ref sig .tc := ⟨.hbm, 111, rfl⟩
abbrev main_v80 : Ref sig .tc := ⟨.hbm, 112, rfl⟩
abbrev main_cst_22 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_23 : Ref sig .tc := ⟨.hbm, 117, rfl⟩
abbrev main_v84 : Ref sig .tc := ⟨.hbm, 118, rfl⟩
abbrev main_v85 : Ref sig .tc := ⟨.hbm, 119, rfl⟩

abbrev nD : Nat := 1
abbrev τ : Topo := Topo.v7x

variable {F : FTy → Type} [FloatOps F]
-- ==== Proof.Frames.lean ====
/- The claims that state no value: the kernel, its idealization and the reference run, leave their arguments as they were
   and leave every semaphore counter at zero; and the one constant that the idealization names has the value it was given. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof.Frames

open Idealize.ShloMosaic Idealize.SL.Sem

/-- The kernel on bits runs, keeps its arguments and ends quiescent. -/
theorem kernel : Cert.quiescent_Kernel (hKernel := Cert.Kernel.Gen.facts) := fun m ρ _ => Cert.Kernel.Gen.frame m ρ

/-- The kernel on extended reals runs, keeps its arguments and ends quiescent. -/
theorem kernelIdeal : Cert.quiescent_KernelIdeal (hKernelIdeal := Cert.KernelIdeal.Gen.facts) :=
  fun m ρ _ => Cert.KernelIdeal.Gen.frame m ρ

/-- The reference on extended reals runs, keeps its arguments and ends quiescent. -/
theorem referenceIdeal : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's folded constant log2(e)/0.07 is given the real `(log 2)⁻¹ · 100/7`. -/
theorem preserves : Cert.preserves_Kernel_KernelIdeal :=
  IdealRules.named_const.statement Cert.KernelIdeal.κ "scale" .f32 0x41A4E123#32 (((Real.log 2)⁻¹ * (100 / 7) : ℝ) : EReal) rfl

end Cert.Proof.Frames

end
-- ==== Proof.Strips.lean ====
/- The list of candidates of one block: each strip of 32 rows is folded over its 32 chunks of 128 columns, keeping in each
   lane the two greatest values, and the two are stored side by side. -/
module

public import proofs.«01_k».proof.Proof.Gen.KernelIdeal.Frame
public import Idealize.ShloMosaic.Lib.Pipeline.Value

@[expose] public section

noncomputable section

namespace Cert.Proof.Strips

open Idealize.ShloMosaic Cert.KernelIdeal Cert.KernelIdeal.Gen

variable {F : FTy → Type} [FloatOps F] [Named F]

theorem chunk_inb (g k : ℕ) (hg : g < 8) (hk : k < 32) :
    ∀ a, (![32 * g, 128 * k] : Fin 2 → ℕ) a + S32x128.size a ≤ S256x4096.size a := by
  intro a; fin_cases a
  · show 32 * g + 32 ≤ 256; omega
  · show 128 * k + 128 ≤ 4096; omega

theorem half_inb (g c : ℕ) (hg : g < 8) (hc : c < 2) :
    ∀ a, (![32 * g, 128 * c] : Fin 2 → ℕ) a + S32x128.size a ≤ S256x256.size a := by
  intro a; fin_cases a
  · show 32 * g + 32 ≤ 256; omega
  · show 128 * c + 128 ≤ 256; omega

/-- Chunk `k` of strip `g` of the block's matrix `E`. -/
def chunk (E : Vec F S256x4096 .bf16) (g k : ℕ) (hg : g < 8) (hk : k < 32) : Vec F S32x128 .bf16 :=
  View.ld E (Rect.unit ![32 * g, 128 * k] S32x128.size (chunk_inb g k hg hk))

/-- The greatest and the second greatest of the first `k` chunks of a strip, lane by lane (zero to start with). -/
def foldTo (E : Vec F S256x4096 .bf16) (g : ℕ) (hg : g < 8) : (k : ℕ) → k ≤ 32 → FVec F S32x128 .bf16 × FVec F S32x128 .bf16
  | 0, _ => (broadcast S32x128 (Scalar.ofBits .bf16 0x0000#16), broadcast S32x128 (Scalar.ofBits .bf16 0x0000#16))
  | k + 1, h =>
    (maximumf (foldTo E g hg k (Nat.le_of_succ_le h)).1 (chunk E g k hg h),
      maximumf (foldTo E g hg k (Nat.le_of_succ_le h)).2 (minimumf (foldTo E g hg k (Nat.le_of_succ_le h)).1 (chunk E g k hg h)))

/-- What the strip's two stores leave: the greatest in the left half of the candidates, the second in the right. -/
def strip (E : Vec F S256x4096 .bf16) (g : ℕ) (hg : g < 8) : List (View.Piece (Elt F) S256x256 .bf16) :=
  [⟨Rect.unit ![32 * g, 128 * 1] S32x128.size (half_inb g 1 hg (by decide)), shapeCast S32x128 (foldTo E g hg 32 le_rfl).2 shapeCasts_S32x128_S32x128⟩,
   ⟨Rect.unit ![32 * g, 128 * 0] S32x128.size (half_inb g 0 hg (by decide)), shapeCast S32x128 (foldTo E g hg 32 le_rfl).1 shapeCasts_S32x128_S32x128⟩]

/-- The eight strips' stores, last first. -/
def strips (E : Vec F S256x4096 .bf16) : List (View.Piece (Elt F) S256x256 .bf16) :=
  strip E 7 (by decide) ++ strip E 6 (by decide) ++ strip E 5 (by decide) ++ strip E 4 (by decide) ++
    strip E 3 (by decide) ++ strip E 2 (by decide) ++ strip E 1 (by decide) ++ strip E 0 (by decide)

end Cert.Proof.Strips

end
-- ==== Proof.Block.lean ====
/- What one grid point leaves, as a function of its block of `v`, the table and what the point before left: the generated
   pieces read back. -/
module

public import proofs.«01_k».proof.Proof.Strips

@[expose] public section

noncomputable section

namespace Cert.Proof.Block

open Idealize.ShloMosaic Cert.KernelIdeal Cert.KernelIdeal.Gen Cert.Proof.Strips

variable {F : FTy → Type} [FloatOps F] [Named F]

theorem hz : (![0, 0] : Fin 2 → ℕ) = fun _ => 0 := funext fun a => by fin_cases a <;> rfl

/-- The square of columns the grid point's own rows meet: its diagonal is the matrix's. -/
def square (i : grid0.Coords) (P : Vec F S256x4096 .bf16) : Vec F S256x256 .bf16 :=
  View.ld P (Rect.unit (s := S256x4096) (k0_off1 i) S256x256.size (k0_off1_inb i))

/-- The pieces of a block `P` with the diagonal of its square zeroed. -/
def offPieces (i : grid0.Coords) (P : Vec F S256x4096 .bf16) : List (View.Piece (Elt F) S256x4096 .bf16) :=
  [⟨Rect.unit (s := S256x4096) (k0_off1 i) S256x256.size (k0_off1_inb i), k0_pay9 (square i P)⟩,
   ⟨Rect.unit ![0, 0] S256x4096.size inb_S256x4096_S256x4096_0_0, P⟩]

/-- The block with the diagonal of its square zeroed. -/
def off (i : grid0.Coords) (P : Vec F S256x4096 .bf16) : Vec F S256x4096 .bf16 := View.canon (offPieces i P)

/-- The block's candidates: per strip the two greatest of each lane. -/
def cand (i : grid0.Coords) (P : Vec F S256x4096 .bf16) : Vec F S256x256 .bf16 := View.canon (strips (off i P))

/-- What the block adds to the column sums, without its diagonal. -/
def cols (i : grid0.Coords) (P : Vec F S256x4096 .bf16) : FVec F S1x4096 .f32 :=
  k0_pay323 (off i P) (cand i P) (k0_pay320 (cand i P))

/-- What the block adds to the sum over its rows. -/
def part (i : grid0.Coords) (P : Vec F S256x4096 .bf16) : FVec F S1x128 .f32 :=
  k0_pay322 (k0_pay7 (square i P)) (k0_pay8 (square i P)) (off i P) (cand i P) (k0_pay320 (cand i P))

/-- Column sums `X` with the block's diagonal added at the columns of its square. -/
def addDiag (i : grid0.Coords) (P : Vec F S256x4096 .bf16) (X : Vec F S1x4096 .f32) : Vec F S1x4096 .f32 :=
  View.canon [⟨Rect.unit (s := S1x4096) (k0_off2 i) S1x256.size (k0_off2_inb i),
      k0_pay1 (k0_pay328 (k0_pay8 (square i P)) (View.ld X (Rect.unit (s := S1x4096) (k0_off2 i) S1x256.size (k0_off2_inb i))))⟩,
    ⟨Rect.unit ![0, 0] S1x4096.size inb_S1x4096_S1x4096_0_0, X⟩]

/-! ## The pieces, read back through any memref -/

section Pieces

variable {sp : Space} (v6 : View sig .tc sp S256x4096 .bf16) (v8 : View sig .tc sp S256x256 .bf16) (v4 : View sig .tc sp S1x4096 .f32)

/-- The run's square: what the window reads of the block stored just before. -/
theorem square_read (i : grid0.Coords) (P : Vec F S256x4096 .bf16) :
    v6.readAt (Elt F) (Rect.unit (s := S256x4096) (k0_off1 i) S256x256.size (k0_off1_inb i)).toLoadRect
      (v6.writes (Elt F) v6.junk [⟨Rect.unit ![0, 0] S256x4096.size inb_S256x4096_S256x4096_0_0, P⟩]) = square i P := by
  rw [View.readAt_writes_junk_eq_canon, View.canon_unit_zero hz]; rfl

theorem off_read (i : grid0.Coords) (P : Vec F S256x4096 .bf16) :
    v6.read (Elt F) (v6.writes (Elt F) v6.junk (offPieces i P)) = off i P := View.read_writes_junk_eq_canon _ _

theorem off_whole (i : grid0.Coords) (P : Vec F S256x4096 .bf16) :
    v6.readCov (offPieces i P) (Rect.unit ![0, 0] S256x4096.size inb_S256x4096_S256x4096_0_0).toLoadRect = off i P := by
  rw [View.readCov_eq_canon']; exact View.ld_unit_zero hz _ (off i P)

theorem cand_whole (i : grid0.Coords) (P : Vec F S256x4096 .bf16) :
    v8.readCov (strips (off i P)) (Rect.unit ![0, 0] S256x256.size inb_S256x256_S256x256_0_0).toLoadRect = cand i P := by
  rw [View.readCov_eq_canon']; exact View.ld_unit_zero hz _ (cand i P)

end Pieces

/-! ## The points between the first and the last -/

section B

variable (c : Dev nD) (i : grid0.Coords) (arg1 : Memref sig .tc .vmem S256x512 .f32) (harg1 : arg1.IsWhole) (arg2 : Memref sig .tc .vmem S4096x512 .f32) (harg2 : arg2.IsWhole) (arg3 : Memref sig .tc .vmem S1x128 .f32) (harg3 : arg3.IsWhole) (arg4 : Memref sig .tc .vmem S1x4096 .f32) (harg4 : arg4.IsWhole) (arg5 : Memref sig .tc .vmem S1x128 .f32) (harg5 : arg5.IsWhole) (arg6 : Memref sig .tc .vmem S256x4096 .bf16) (harg6 : arg6.IsWhole) (arg7 : Memref sig .tc .vmem S4096x512 .bf16) (harg7 : arg7.IsWhole) (arg8 : Memref sig .tc .vmem S256x256 .bf16) (harg8 : arg8.IsWhole)
  (x0 : Vec F S256x512 .f32) (x1 : Vec F S4096x512 .f32) (xs0 : Vec F S1x4096 .f32) (xs1 : Vec F S1x128 .f32) (xs3 : Vec F S4096x512 .bf16)

theorem first_B : kernelRun0_B.sl.HS2_1 (F := F) c arg1 harg1 arg7 harg7 x0 xs3
    = [⟨Rect.unit ![0, 0] S256x4096.size inb_S256x4096_S256x4096_0_0, k0_pay4 x0 xs3⟩] := by
  unfold kernelRun0_B.sl.HS2_1
  rw [View.readAt_eq_ld, View.readAt_eq_ld, harg1.read_unread, harg7.read_unread, View.ld_unit_zero hz, View.ld_unit_zero hz]

theorem square_B : kernelRun0_B.sl.v16 (F := F) c i arg1 harg1 arg6 arg7 harg7 x0 xs3 = square i (k0_pay4 x0 xs3) := by
  unfold kernelRun0_B.sl.v16; rw [first_B]; exact square_read _ i _

theorem off_B : kernelRun0_B.sl.HS2_2 (F := F) c i arg1 harg1 arg6 arg7 harg7 x0 xs3 = offPieces i (k0_pay4 x0 xs3) := by
  unfold kernelRun0_B.sl.HS2_2; rw [first_B, square_B]; rfl

set_option maxRecDepth 20000 in
set_option maxHeartbeats 4000000 in
theorem strips_B : kernelRun0_B.sl.HS4_16 (F := F) c i arg1 harg1 arg6 arg7 harg7 x0 xs3 = strips (off i (k0_pay4 x0 xs3)) := by
  rw [show kernelRun0_B.sl.HS4_16 (F := F) c i arg1 harg1 arg6 arg7 harg7 x0 xs3
    = strips (arg6.view.read (Elt F) (arg6.view.writes (Elt F) arg6.view.junk (kernelRun0_B.sl.HS2_2 (F := F) c i arg1 harg1 arg6 arg7 harg7 x0 xs3))) from rfl,
    off_B, off_read]

theorem cand_B : kernelRun0_B.sl.v1122 (F := F) c i arg1 harg1 arg6 arg7 harg7 arg8 x0 xs3 = cand i (k0_pay4 x0 xs3) := by
  unfold kernelRun0_B.sl.v1122; rw [strips_B]; exact cand_whole _ i _

theorem block_B : kernelRun0_B.sl.v33 (F := F) c i arg1 harg1 arg6 arg7 harg7 x0 xs3 = off i (k0_pay4 x0 xs3) := by
  unfold kernelRun0_B.sl.v33; rw [off_B]; exact off_whole _ i _

theorem colsFirst_B : kernelRun0_B.sl.HS0_1 (F := F) c i arg1 harg1 arg4 harg4 arg6 arg7 harg7 arg8 x0 xs0 xs3
    = [⟨Rect.unit ![0, 0] S1x4096.size inb_S1x4096_S1x4096_0_0, addf xs0 (cols i (k0_pay4 x0 xs3))⟩] := by
  unfold kernelRun0_B.sl.HS0_1 kernelRun0_B.sl.r_64
  rw [block_B, cand_B, View.readAt_eq_ld, harg4.read_unread, View.ld_unit_zero hz]
  unfold k0_pay326 cols; dsimp only; rw [shapeCast_self]

/-- The two stores to the column sums: the block's columns on what was there, then the diagonal. -/
theorem cols_B : View.canon ((⟨Rect.unit (s := S1x4096) (k0_off2 i) S1x256.size (k0_off2_inb i),
      k0_pay1 (kernelRun0_B.sl.r_65 (F := F) c i arg1 harg1 arg4 harg4 arg6 arg7 harg7 arg8 x0 xs0 xs3)⟩ : View.Piece (Elt F) S1x4096 .f32)
    :: kernelRun0_B.sl.HS0_1 (F := F) c i arg1 harg1 arg4 harg4 arg6 arg7 harg7 arg8 x0 xs0 xs3)
      = addDiag i (k0_pay4 x0 xs3) (addf xs0 (cols i (k0_pay4 x0 xs3))) := by
  unfold kernelRun0_B.sl.r_65 kernelRun0_B.sl.v1173 kernelRun0_B.sl.r_1
  rw [colsFirst_B, square_B, View.readAt_writes_junk_eq_canon, View.canon_unit_zero hz]
  rfl

/-- The store to the sum over the rows. -/
theorem part_B : View.canon [(⟨Rect.unit (s := S1x128) ![0, 0] S1x128.size inb_S1x128_S1x128_0_0, k0_pay327 (kernelRun0_B.sl.r (F := F) c i arg1 harg1 arg6 arg7 harg7 x0 xs3)
    (kernelRun0_B.sl.r_1 (F := F) c i arg1 harg1 arg6 arg7 harg7 x0 xs3) (kernelRun0_B.sl.v33 (F := F) c i arg1 harg1 arg6 arg7 harg7 x0 xs3)
    (kernelRun0_B.sl.v1122 (F := F) c i arg1 harg1 arg6 arg7 harg7 arg8 x0 xs3) (kernelRun0_B.sl.r_64 (F := F) c i arg1 harg1 arg6 arg7 harg7 arg8 x0 xs3)
    (View.readAt (Elt F) arg5.view (Rect.unit (s := S1x128) ![0, 0] S1x128.size inb_S1x128_S1x128_0_0).toLoadRect (harg5.unread xs1))⟩ : View.Piece (Elt F) S1x128 .f32)]
      = addf xs1 (part i (k0_pay4 x0 xs3)) := by
  unfold kernelRun0_B.sl.r kernelRun0_B.sl.r_1 kernelRun0_B.sl.r_64
  rw [View.canon_unit_zero hz, square_B, block_B, cand_B, View.readAt_eq_ld, harg5.read_unread, View.ld_unit_zero hz]
  unfold k0_pay327 part; dsimp only; rw [shapeCast_self]

theorem sout0_B (hc0) (hc1) (hc2) (hc3) :
    sout0_B_0 (F := F) c i arg1 harg1 arg2 harg2 arg3 harg3 arg4 harg4 arg5 harg5 arg6 harg6 arg7 harg7 arg8 harg8 hc0 hc1 hc2 hc3 x0 x1 xs0 xs1 xs3
      = addDiag i (k0_pay4 x0 xs3) (addf xs0 (cols i (k0_pay4 x0 xs3))) := by
  unfold sout0_B_0
  rw [View.read_writes_junk_eq_canon]
  exact cols_B c i arg1 harg1 arg4 harg4 arg6 arg7 harg7 arg8 x0 xs0 xs3

theorem sout1_B (hc0) (hc1) (hc2) (hc3) :
    sout0_B_1 (F := F) c i arg1 harg1 arg2 harg2 arg3 harg3 arg4 harg4 arg5 harg5 arg6 harg6 arg7 harg7 arg8 harg8 hc0 hc1 hc2 hc3 x0 x1 xs0 xs1 xs3
      = addf xs1 (part i (k0_pay4 x0 xs3)) := by
  unfold sout0_B_1
  rw [View.read_writes_junk_eq_canon]
  exact part_B c i arg1 harg1 arg5 harg5 arg6 arg7 harg7 arg8 x0 xs1 xs3

/-- The last point does what the points before it do … -/
theorem sout0_C (hc0) (hc1) (hc2) (hc3) :
    sout0_C_0 (F := F) c i arg1 harg1 arg2 harg2 arg3 harg3 arg4 harg4 arg5 harg5 arg6 harg6 arg7 harg7 arg8 harg8 hc0 hc1 hc2 hc3 x0 x1 xs0 xs1 xs3
      = addDiag i (k0_pay4 x0 xs3) (addf xs0 (cols i (k0_pay4 x0 xs3))) := by
  unfold sout0_C_0
  rw [View.read_writes_junk_eq_canon]
  exact cols_B c i arg1 harg1 arg4 harg4 arg6 arg7 harg7 arg8 x0 xs0 xs3

theorem sout1_C (hc0) (hc1) (hc2) (hc3) :
    sout0_C_1 (F := F) c i arg1 harg1 arg2 harg2 arg3 harg3 arg4 harg4 arg5 harg5 arg6 harg6 arg7 harg7 arg8 harg8 hc0 hc1 hc2 hc3 x0 x1 xs0 xs1 xs3
      = addf xs1 (part i (k0_pay4 x0 xs3)) := by
  unfold sout0_C_1
  rw [View.read_writes_junk_eq_canon]
  exact part_B c i arg1 harg1 arg5 harg5 arg6 arg7 harg7 arg8 x0 xs1 xs3

/-- … and reads both back … -/
theorem colsRead_C : kernelRun0_C.sl.v1182 (F := F) c i arg1 harg1 arg4 harg4 arg6 arg7 harg7 arg8 x0 xs0 xs3
    = addDiag i (k0_pay4 x0 xs3) (addf xs0 (cols i (k0_pay4 x0 xs3))) := by
  unfold kernelRun0_C.sl.v1182
  refine (View.readCov_eq_canon' _ _ _).trans ((View.ld_unit_zero hz inb_S1x4096_S1x4096_0_0 _).trans ?_)
  exact cols_B c i arg1 harg1 arg4 harg4 arg6 arg7 harg7 arg8 x0 xs0 xs3

theorem partRead_C : kernelRun0_C.sl.v1188 (F := F) c i arg1 harg1 arg5 harg5 arg6 arg7 harg7 arg8 x0 xs1 xs3
    = addf xs1 (part i (k0_pay4 x0 xs3)) := by
  unfold kernelRun0_C.sl.v1188
  refine (View.readCov_eq_canon' _ _ _).trans ((View.ld_unit_zero hz inb_S1x128_S1x128_0_0 _).trans ?_)
  exact part_B c i arg1 harg1 arg5 harg5 arg6 arg7 harg7 arg8 x0 xs1 xs3

/-- … to write the result from them. -/
theorem out_C (hc0) (hc1) (hc2) (hc3) :
    out0_C_2 (F := F) c i arg1 harg1 arg2 harg2 arg3 harg3 arg4 harg4 arg5 harg5 arg6 harg6 arg7 harg7 arg8 harg8 hc0 hc1 hc2 hc3 x0 x1 xs0 xs1 xs3
      = k0_pay2 (addDiag i (k0_pay4 x0 xs3) (addf xs0 (cols i (k0_pay4 x0 xs3)))) (addf xs1 (part i (k0_pay4 x0 xs3))) := by
  unfold out0_C_2
  rw [View.read_writes_junk_eq_canon]
  refine Eq.trans (b := View.canon [(⟨Rect.unit (s := S1x128) ![0, 0] S1x128.size inb_S1x128_S1x128_0_0,
    k0_pay2 (kernelRun0_C.sl.v1182 (F := F) c i arg1 harg1 arg4 harg4 arg6 arg7 harg7 arg8 x0 xs0 xs3)
      (kernelRun0_C.sl.v1188 (F := F) c i arg1 harg1 arg5 harg5 arg6 arg7 harg7 arg8 x0 xs1 xs3)⟩ : View.Piece (Elt F) S1x128 .f32)]) rfl ?_
  rw [View.canon_unit_zero hz, colsRead_C, partRead_C]

end B

/-! ## The first point -/

section A

variable (c : Dev nD) (i : grid0.Coords) (arg1 : Memref sig .tc .vmem S256x512 .f32) (harg1 : arg1.IsWhole) (arg2 : Memref sig .tc .vmem S4096x512 .f32) (harg2 : arg2.IsWhole) (arg3 : Memref sig .tc .vmem S1x128 .f32) (harg3 : arg3.IsWhole) (arg4 : Memref sig .tc .vmem S1x4096 .f32) (harg4 : arg4.IsWhole) (arg5 : Memref sig .tc .vmem S1x128 .f32) (harg5 : arg5.IsWhole) (arg6 : Memref sig .tc .vmem S256x4096 .bf16) (harg6 : arg6.IsWhole) (arg7 : Memref sig .tc .vmem S4096x512 .bf16) (harg7 : arg7.IsWhole) (arg8 : Memref sig .tc .vmem S256x256 .bf16) (harg8 : arg8.IsWhole)
  (x0 : Vec F S256x512 .f32) (x1 : Vec F S4096x512 .f32)

theorem table_A : kernelRun0_A.sl.HS3_1 (F := F) c arg2 harg2 x1
    = [⟨Rect.unit (s := S4096x512) ![0, 0] S4096x512.size inb_S4096x512_S4096x512_0_0, k0_pay3 x1⟩] := by
  unfold kernelRun0_A.sl.HS3_1
  rw [View.readAt_eq_ld, harg2.read_unread, View.ld_unit_zero hz]

theorem first_A : kernelRun0_A.sl.HS2_1 (F := F) c arg1 harg1 arg2 harg2 arg7 x0 x1
    = [⟨Rect.unit ![0, 0] S256x4096.size inb_S256x4096_S256x4096_0_0, k0_pay4 x0 (k0_pay3 x1)⟩] := by
  unfold kernelRun0_A.sl.HS2_1 kernelRun0_A.sl.v7
  rw [View.readAt_eq_ld, harg1.read_unread, View.ld_unit_zero hz, table_A, View.readCov_unit_zero _ hz]

theorem square_A : kernelRun0_A.sl.v16 (F := F) c i arg1 harg1 arg2 harg2 arg6 arg7 x0 x1 = square i (k0_pay4 x0 (k0_pay3 x1)) := by
  unfold kernelRun0_A.sl.v16; rw [first_A]; exact square_read _ i _

theorem off_A : kernelRun0_A.sl.HS2_2 (F := F) c i arg1 harg1 arg2 harg2 arg6 arg7 x0 x1 = offPieces i (k0_pay4 x0 (k0_pay3 x1)) := by
  unfold kernelRun0_A.sl.HS2_2; rw [first_A, square_A]; rfl

set_option maxRecDepth 20000 in
set_option maxHeartbeats 4000000 in
theorem strips_A : kernelRun0_A.sl.HS4_16 (F := F) c i arg1 harg1 arg2 harg2 arg6 arg7 x0 x1 = strips (off i (k0_pay4 x0 (k0_pay3 x1))) := by
  rw [show kernelRun0_A.sl.HS4_16 (F := F) c i arg1 harg1 arg2 harg2 arg6 arg7 x0 x1
    = strips (arg6.view.read (Elt F) (arg6.view.writes (Elt F) arg6.view.junk (kernelRun0_A.sl.HS2_2 (F := F) c i arg1 harg1 arg2 harg2 arg6 arg7 x0 x1))) from rfl,
    off_A, off_read]

theorem cand_A : kernelRun0_A.sl.v1122 (F := F) c i arg1 harg1 arg2 harg2 arg6 arg7 arg8 x0 x1 = cand i (k0_pay4 x0 (k0_pay3 x1)) := by
  unfold kernelRun0_A.sl.v1122; rw [strips_A]; exact cand_whole _ i _

theorem block_A : kernelRun0_A.sl.v33 (F := F) c i arg1 harg1 arg2 harg2 arg6 arg7 x0 x1 = off i (k0_pay4 x0 (k0_pay3 x1)) := by
  unfold kernelRun0_A.sl.v33; rw [off_A]; exact off_whole _ i _

theorem colsFirst_A : kernelRun0_A.sl.HS0_1 (F := F) c i arg1 harg1 arg2 harg2 arg6 arg7 arg8 x0 x1
    = [⟨Rect.unit ![0, 0] S1x4096.size inb_S1x4096_S1x4096_0_0, cols i (k0_pay4 x0 (k0_pay3 x1))⟩] := by
  unfold kernelRun0_A.sl.HS0_1 kernelRun0_A.sl.r_64
  rw [block_A, cand_A]
  unfold k0_pay324 cols; dsimp only; rw [shapeCast_self]

/-- The first point writes its columns over whatever was there … -/
theorem sout0_A (hc0) (hc1) (hc2) (hc3) :
    sout0_A_0 (F := F) c i arg1 harg1 arg2 harg2 arg3 harg3 arg4 harg4 arg5 harg5 arg6 harg6 arg7 harg7 arg8 harg8 hc0 hc1 hc2 hc3 x0 x1
      = addDiag i (k0_pay4 x0 (k0_pay3 x1)) (cols i (k0_pay4 x0 (k0_pay3 x1))) := by
  unfold sout0_A_0
  rw [View.read_writes_junk_eq_canon]
  show View.canon ((⟨Rect.unit (s := S1x4096) (k0_off2 i) S1x256.size (k0_off2_inb i),
      k0_pay1 (kernelRun0_A.sl.r_65 (F := F) c i arg1 harg1 arg2 harg2 arg4 arg6 arg7 arg8 x0 x1)⟩ : View.Piece (Elt F) S1x4096 .f32)
    :: kernelRun0_A.sl.HS0_1 (F := F) c i arg1 harg1 arg2 harg2 arg6 arg7 arg8 x0 x1) = _
  unfold kernelRun0_A.sl.r_65 kernelRun0_A.sl.v1173 kernelRun0_A.sl.r_1
  rw [colsFirst_A, square_A, View.readAt_writes_junk_eq_canon, View.canon_unit_zero hz]
  rfl

/-- … its rows' sum … -/
theorem sout1_A (hc0) (hc1) (hc2) (hc3) :
    sout0_A_1 (F := F) c i arg1 harg1 arg2 harg2 arg3 harg3 arg4 harg4 arg5 harg5 arg6 harg6 arg7 harg7 arg8 harg8 hc0 hc1 hc2 hc3 x0 x1
      = part i (k0_pay4 x0 (k0_pay3 x1)) := by
  unfold sout0_A_1
  rw [View.read_writes_junk_eq_canon]
  show View.canon [(⟨Rect.unit (s := S1x128) ![0, 0] S1x128.size inb_S1x128_S1x128_0_0, k0_pay325 (kernelRun0_A.sl.r (F := F) c i arg1 harg1 arg2 harg2 arg6 arg7 x0 x1)
    (kernelRun0_A.sl.r_1 (F := F) c i arg1 harg1 arg2 harg2 arg6 arg7 x0 x1) (kernelRun0_A.sl.v33 (F := F) c i arg1 harg1 arg2 harg2 arg6 arg7 x0 x1)
    (kernelRun0_A.sl.v1122 (F := F) c i arg1 harg1 arg2 harg2 arg6 arg7 arg8 x0 x1) (kernelRun0_A.sl.r_64 (F := F) c i arg1 harg1 arg2 harg2 arg6 arg7 arg8 x0 x1)⟩ : View.Piece (Elt F) S1x128 .f32)] = _
  unfold kernelRun0_A.sl.r kernelRun0_A.sl.r_1 kernelRun0_A.sl.r_64
  rw [View.canon_unit_zero hz, square_A, block_A, cand_A]
  unfold k0_pay325 part; dsimp only; rw [shapeCast_self]

/-- … and the table, rounded. -/
theorem sout3_A (hc0) (hc1) (hc2) (hc3) :
    sout0_A_3 (F := F) c i arg1 harg1 arg2 harg2 arg3 harg3 arg4 harg4 arg5 harg5 arg6 harg6 arg7 harg7 arg8 harg8 hc0 hc1 hc2 hc3 x0 x1
      = k0_pay3 x1 := by
  unfold sout0_A_3
  rw [View.read_writes_junk_eq_canon]
  show View.canon (kernelRun0_A.sl.HS3_1 (F := F) c arg2 harg2 x1) = _
  rw [table_A, View.canon_unit_zero hz]

end A

end Cert.Proof.Block

end
-- ==== Proof.Fold.lean ====
/- What the kernel returns: the column sums and the sum over the rows folded over the sixteen grid points, and the result
   computed from them at the last. -/
module

public import proofs.«01_k».proof.Proof.Block
public import proofs.«01_k».proof.Proof.Gen.KernelIdeal.Value

@[expose] public section

noncomputable section

namespace Cert.Proof.Fold

open Idealize.ShloMosaic Idealize.ShloMosaic.TcCoe Cert.KernelIdeal Cert.KernelIdeal.Gen Cert.KernelIdeal.Value Cert.Proof.Block

variable {F : FTy → Type} [FloatOps F] [Named F]
variable (m : (ℓ : Loc nD τ sig) → Buf (Elt F) ℓ)

/-- The block of exponentials of grid point `t`: its rows of the first argument against the rounded table. -/
def expo (c : Dev nD) (t : Fin cfg0.N) : Vec F S256x4096 .bf16 :=
  k0_pay4 (iblk m c 0 t) (k0_pay3 (iblk m c 1 ⟨0, lt_of_lt_of_eq (by decide) N_0.symm⟩))

/-- The column sums after point `n`. -/
def colsTo (c : Dev nD) : (n : ℕ) → n < cfg0.N → Vec F S1x4096 .f32
  | 0, h => addDiag (grid0.coords ⟨0, h⟩) (expo m c ⟨0, h⟩) (cols (grid0.coords ⟨0, h⟩) (expo m c ⟨0, h⟩))
  | n + 1, h => addDiag (grid0.coords ⟨n + 1, h⟩) (expo m c ⟨n + 1, h⟩)
      (addf (colsTo c n (Nat.lt_of_succ_lt h)) (cols (grid0.coords ⟨n + 1, h⟩) (expo m c ⟨n + 1, h⟩)))

/-- The sum over the rows after point `n`. -/
def partTo (c : Dev nD) : (n : ℕ) → n < cfg0.N → Vec F S1x128 .f32
  | 0, h => part (grid0.coords ⟨0, h⟩) (expo m c ⟨0, h⟩)
  | n + 1, h => addf (partTo c n (Nat.lt_of_succ_lt h)) (part (grid0.coords ⟨n + 1, h⟩) (expo m c ⟨n + 1, h⟩))

/-- What the kernel carries after point `n`. -/
theorem outsAt_eq (c : Dev nD) : ∀ (n : ℕ) (h : n < cfg0.N),
    (outsAt0 m c n h).2 = (colsTo m c n h, partTo m c n h, k0_pay3 (iblk m c 1 ⟨0, lt_of_lt_of_eq (by decide) N_0.symm⟩))
  | 0, h => by
    rw [outsAt0_A m c ⟨0, h⟩ (Nat.zero_mod _) (Nat.zero_mod _) (Nat.not_succ_le_zero 0) (by show ¬ 0 % 16 = 15; decide)]
    dsimp only
    rw [sout0_A, sout1_A, sout3_A]; rfl
  | n + 1, h => by
    have hN : cfg0.N = 16 := N_0
    have h0 : ¬(⟨n + 1, h⟩ : Fin cfg0.N).val % 16 = 0 := by dsimp only; omega
    have h2 : 1 ≤ (⟨n + 1, h⟩ : Fin cfg0.N).val := Nat.succ_le_succ (Nat.zero_le n)
    have ih := outsAt_eq c n (Nat.lt_of_succ_lt h)
    have e1 := congrArg (·.1) ih
    have e2 := congrArg (·.2.1) ih
    have e3 := congrArg (·.2.2) ih
    dsimp only at e1 e2 e3
    by_cases h3 : (⟨n + 1, h⟩ : Fin cfg0.N).val % 16 = 15
    · rw [outsAt0_C m c ⟨n + 1, h⟩ h0 h0 h2 h3]
      dsimp only
      rw [sout0_C, sout1_C]
      simp only [Nat.add_sub_cancel, e1, e2, e3]
      rfl
    · rw [outsAt0_B m c ⟨n + 1, h⟩ h0 h0 h2 h3]
      dsimp only
      rw [sout0_B, sout1_B]
      simp only [Nat.add_sub_cancel, e1, e2, e3]
      rfl

/-- The kernel's result: computed from the column sums and the sum over the rows after the last point. -/
theorem result_eq (c : Dev nD) : G2 m c = k0_pay2 (colsTo m c 15 (lt_of_lt_of_eq (by decide) N_0.symm)) (partTo m c 15 (lt_of_lt_of_eq (by decide) N_0.symm)) := by
  have h15 : 15 < cfg0.N := lt_of_lt_of_eq (by decide) N_0.symm
  rw [G2_last, ← outsAt0_sweep m c 15 h15]
  have h0 : ¬(⟨15, h15⟩ : Fin cfg0.N).val % 16 = 0 := by dsimp only; omega
  have ih := outsAt_eq m c 14 (Nat.lt_of_succ_lt h15)
  have e1 := congrArg (·.1) ih
  have e2 := congrArg (·.2.1) ih
  have e3 := congrArg (·.2.2) ih
  dsimp only at e1 e2 e3
  rw [outsAt0_C m c ⟨15, h15⟩ h0 h0 (by dsimp only; omega) (by dsimp only)]
  dsimp only
  rw [out_C]
  simp only [show (15 : ℕ) - 1 = 14 from rfl, e1, e2, e3]
  rfl

end Cert.Proof.Fold

end
-- ==== Proof.Lanes.lean ====
/- The two best of a sequence, kept by a running pair of maxima: an element that at most one other exceeds is among them. -/
module

public import Mathlib.Order.Lattice
public import Mathlib.Order.MinMax
public import Mathlib.Tactic.ByContra

@[expose] public section

namespace Cert.Proof.Lanes

variable {α : Type*} [LinearOrder α]

/-- The running pair: the largest so far and the next largest so far, starting at `z`. -/
def two (z : α) (x : ℕ → α) : ℕ → α × α
  | 0 => (z, z)
  | k + 1 => (max (two z x k).1 (x k), max (two z x k).2 (min (two z x k).1 (x k)))

/-- The first of the pair is the least bound of `z` and the elements seen. -/
theorem first_le (z : α) (x : ℕ → α) (y : α) : ∀ k, (two z x k).1 ≤ y ↔ z ≤ y ∧ ∀ i, i < k → x i ≤ y
  | 0 => by simp [two]
  | k + 1 => by
    simp only [two, max_le_iff, first_le z x y k]
    constructor
    · rintro ⟨⟨hz, h⟩, hk⟩
      refine ⟨hz, fun i hi => ?_⟩
      rcases Nat.lt_succ_iff_lt_or_eq.mp hi with h' | rfl
      · exact h i h'
      · exact hk
    · rintro ⟨hz, h⟩
      exact ⟨⟨hz, fun i hi => h i (Nat.lt_succ_of_lt hi)⟩, h k (Nat.lt_succ_self k)⟩

/-- The second of the pair is at most `y` exactly when at most one element seen exceeds `y`. -/
theorem second_le (z : α) (x : ℕ → α) (y : α) : ∀ k, (two z x k).2 ≤ y ↔
    z ≤ y ∧ ∀ i j, i < k → j < k → y < x i → y < x j → i = j
  | 0 => by simp [two]
  | k + 1 => by
    simp only [two, max_le_iff, min_le_iff, first_le z x y k, second_le z x y k]
    constructor
    · rintro ⟨⟨hz, h⟩, hk⟩
      refine ⟨hz, fun i j hi hj hyi hyj => ?_⟩
      rcases Nat.lt_succ_iff_lt_or_eq.mp hi with hi' | rfl <;> rcases Nat.lt_succ_iff_lt_or_eq.mp hj with hj' | rfl
      · exact h i j hi' hj' hyi hyj
      · rcases hk with ⟨-, hk⟩ | hk
        · exact absurd (hk i hi') (not_le.mpr hyi)
        · exact absurd hk (not_le.mpr hyj)
      · rcases hk with ⟨-, hk⟩ | hk
        · exact absurd (hk j hj') (not_le.mpr hyj)
        · exact absurd hk (not_le.mpr hyi)
      · rfl
    · rintro ⟨hz, h⟩
      refine ⟨⟨hz, fun i j hi hj => h i j (Nat.lt_succ_of_lt hi) (Nat.lt_succ_of_lt hj)⟩, ?_⟩
      by_cases hk : x k ≤ y
      · exact Or.inr hk
      · refine Or.inl ⟨hz, fun i hi => ?_⟩
        by_contra hc
        exact (Nat.ne_of_lt hi) (h i k (Nat.lt_succ_of_lt hi) (Nat.lt_succ_self k) (not_le.mp hc) (not_le.mp hk))

/-- Both of the pair are `z` or an element seen. -/
theorem mem (z : α) (x : ℕ → α) : ∀ k, ((two z x k).1 = z ∨ ∃ i, i < k ∧ (two z x k).1 = x i) ∧
    ((two z x k).2 = z ∨ ∃ i, i < k ∧ (two z x k).2 = x i)
  | 0 => ⟨Or.inl rfl, Or.inl rfl⟩
  | k + 1 => by
    obtain ⟨h1, h2⟩ := mem z x k
    have up : ∀ v : α, (v = z ∨ ∃ i, i < k ∧ v = x i) → (v = z ∨ ∃ i, i < k + 1 ∧ v = x i) := fun v h =>
      h.imp id fun ⟨i, hi, e⟩ => ⟨i, Nat.lt_succ_of_lt hi, e⟩
    have new : (x k = z ∨ ∃ i, i < k + 1 ∧ x k = x i) := Or.inr ⟨k, Nat.lt_succ_self k, rfl⟩
    simp only [two]
    constructor
    · rcases max_choice (two z x k).1 (x k) with h | h <;> rw [h]
      · exact up _ h1
      · exact new
    · rcases max_choice (two z x k).2 (min (two z x k).1 (x k)) with h | h <;> rw [h]
      · exact up _ h2
      · rcases min_choice (two z x k).1 (x k) with h | h <;> rw [h]
        · exact up _ h1
        · exact new

/-- An element above `z` that at most one other element reaches is one of the pair. -/
theorem kept (z : α) (x : ℕ → α) (k j : ℕ) (hj : j < k) (hz : z < x j)
    (h : ∀ i i', i < k → i' < k → i ≠ j → i' ≠ j → x j ≤ x i → x j ≤ x i' → i = i') :
    x j = (two z x k).1 ∨ x j = (two z x k).2 := by
  have hx2 : (two z x k).2 ≤ x j := by
    rw [second_le]
    exact ⟨hz.le, fun i i' hi hi' a b => h i i' hi hi' (fun e => by subst e; exact lt_irrefl _ a)
      (fun e => by subst e; exact lt_irrefl _ b) a.le b.le⟩
  have hx1 : x j ≤ (two z x k).1 := ((first_le z x _ k).mp le_rfl).2 j hj
  rcases hx2.lt_or_eq with hlt | heq
  · refine Or.inl (le_antisymm hx1 ?_)
    rw [first_le]
    refine ⟨hz.le, fun i hi => ?_⟩
    have := ((second_le z x (two z x k).2 k).mp le_rfl).2
    by_contra hc
    have := this i j hi hj (hlt.trans (not_le.mp hc)) hlt
    subst this
    exact hc le_rfl
  · exact Or.inr heq.symm

end Cert.Proof.Lanes
-- ==== Proof.Select.lean ====
/- Four rounds of "the largest below the last" over the candidates of a row find the fourth largest entry of the row, when
   no lane holds three of the row's four largest. -/
module

public import proofs.«01_k».proof.Proof.Lanes
public import Mathlib.Order.Fin.Basic
public import Mathlib.Tactic.FinCases

@[expose] public section

namespace Cert.Proof.Select

open Cert.Proof.Lanes

variable {α : Type*} [LinearOrder α]

/-- The entries of a row in lane `l`, chunk after chunk (`z` past the last chunk). -/
def lane (z : α) (a : Fin 4096 → α) (l : Fin 128) (k : ℕ) : α :=
  if h : k < 32 then a ⟨128 * k + l.val, by have := l.isLt; omega⟩ else z

/-- The row `a` has the four largest entries `p 0`, …, `p 3`, in falling order, above `z` and above all others, and no three
    of them lie in one lane. -/
structure Clear (z : α) (a : Fin 4096 → α) (p : Fin 4 → Fin 4096) : Prop where
  falls : ∀ i j, i < j → a (p j) < a (p i)
  above : z < a (p 3)
  rest : ∀ c, (∀ k, c ≠ p k) → a c < a (p 3)
  lanes : ∀ i j k, i ≠ j → j ≠ k → i ≠ k → (p i).val % 128 = (p j).val % 128 → (p j).val % 128 ≠ (p k).val % 128

variable {z : α} {a : Fin 4096 → α} {p : Fin 4 → Fin 4096}

theorem Clear.least (h : Clear z a p) (k : Fin 4) : a (p 3) ≤ a (p k) := by
  rcases eq_or_ne k 3 with rfl | hk
  · exact le_rfl
  · exact (h.falls k 3 (by omega)).le

theorem Clear.pos (h : Clear z a p) (k : Fin 4) : z < a (p k) := h.above.trans_le (h.least k)

/-- An entry as large as one of the four is one of the four. -/
theorem Clear.is_one (h : Clear z a p) (c : Fin 4096) (k : Fin 4) (hc : a (p k) ≤ a c) : ∃ j, c = p j := by
  by_contra hn
  push Not at hn
  exact absurd (h.rest c hn) (not_lt.mpr ((h.least k).trans hc))

/-- Each of the four is among the two kept of its lane. -/
theorem Clear.kept (h : Clear z a p) (k : Fin 4) :
    ∃ l : Fin 128, a (p k) = (two z (lane z a l) 32).1 ∨ a (p k) = (two z (lane z a l) 32).2 := by
  have hlt := (p k).isLt
  refine ⟨⟨(p k).val % 128, Nat.mod_lt _ (by decide)⟩, ?_⟩
  have hj : (p k).val / 128 < 32 := by omega
  have e : lane z a ⟨(p k).val % 128, Nat.mod_lt _ (by decide)⟩ ((p k).val / 128) = a (p k) := by
    unfold lane
    rw [dif_pos hj]
    exact congrArg a (Fin.ext (by dsimp only; omega))
  rw [← e]
  refine Lanes.kept z _ 32 _ hj (by rw [e]; exact h.pos k) fun i i' hi hi' hne hne' hle hle' => ?_
  rw [e] at hle hle'
  unfold lane at hle hle'
  rw [dif_pos hi] at hle
  rw [dif_pos hi'] at hle'
  obtain ⟨u, hu⟩ := h.is_one _ k hle
  obtain ⟨v, hv⟩ := h.is_one _ k hle'
  have hu' := congrArg Fin.val hu
  have hv' := congrArg Fin.val hv
  dsimp only at hu' hv'
  by_contra hii
  have huk : u ≠ k := fun he => by subst he; omega
  have hvk : v ≠ k := fun he => by subst he; omega
  have huv : u ≠ v := fun he => by subst he; omega
  exact h.lanes u v k huv hvk huk (by omega) (by omega)

/-- `m` is the largest of the values `w`. -/
def IsMax {n : ℕ} (w : Fin n → α) (m : α) : Prop := (∀ i, w i ≤ m) ∧ ∃ i, w i = m

/-- The values below `m`, the others replaced by `z`. -/
def below {n : ℕ} (z : α) (w : Fin n → α) (m : α) (i : Fin n) : α := if w i < m then w i else z

/-- The largest below `m` is `v`, when `v` is a value below `m` that bounds the values below `m`. -/
theorem next {n : ℕ} {w : Fin n → α} {m m' v : α} (hm : IsMax (below z w m) m') (hv : ∃ i, w i = v) (hvm : v < m)
    (hzv : z < v) (hb : ∀ i, w i < m → w i ≤ v) : m' = v := by
  obtain ⟨i, hi⟩ := hv
  obtain ⟨hle, j, hj⟩ := hm
  apply le_antisymm
  · rw [← hj]
    unfold below
    split_ifs with hlt
    · exact hb j hlt
    · exact hzv.le
  · have := hle i
    unfold below at this
    rw [hi, if_pos hvm] at this
    exact this

/-- Four rounds over candidates that hold the four largest find the fourth. -/
theorem Clear.fourth (h : Clear z a p) {n : ℕ} {w : Fin n → α} (hw : ∀ i, w i = z ∨ ∃ c, w i = a c)
    (hp : ∀ k, ∃ i, w i = a (p k)) {m1 m2 m3 m4 : α} (h1 : IsMax w m1) (h2 : IsMax (below z w m1) m2)
    (h3 : IsMax (below z w m2) m3) (h4 : IsMax (below z w m3) m4) : m4 = a (p 3) := by
  have cases : ∀ i, (∃ k, w i = a (p k)) ∨ w i < a (p 3) := by
    intro i
    rcases hw i with e | ⟨c, e⟩
    · exact Or.inr (by rw [e]; exact h.above)
    · by_cases hc : ∃ k, c = p k
      · obtain ⟨k, rfl⟩ := hc; exact Or.inl ⟨k, e⟩
      · push Not at hc; exact Or.inr (by rw [e]; exact h.rest c hc)
  have step : ∀ (k k' : Fin 4), k.val + 1 = k'.val → ∀ i, w i < a (p k) → w i ≤ a (p k') := by
    intro k k' hk i hi
    rcases cases i with ⟨j, e⟩ | hlt
    · rw [e] at hi ⊢
      rcases lt_trichotomy j k' with hj | rfl | hj
      · rcases (show j < k ∨ j = k by omega) with hj | rfl
        · exact absurd (h.falls j k hj) (not_lt.mpr hi.le)
        · exact absurd hi (lt_irrefl _)
      · exact le_rfl
      · exact (h.falls k' j hj).le
    · exact hlt.le.trans (h.least k')
  have e1 : m1 = a (p 0) := by
    obtain ⟨i, hi⟩ := hp 0
    obtain ⟨hle, j, hj⟩ := h1
    refine le_antisymm ?_ (hi ▸ hle i)
    rw [← hj]
    rcases cases j with ⟨k, e⟩ | hlt
    · rw [e]
      rcases eq_or_ne k 0 with rfl | hk
      · exact le_rfl
      · exact (h.falls 0 k (Fin.pos_of_ne_zero hk)).le
    · exact hlt.le.trans (h.least 0)
  have e2 : m2 = a (p 1) := next h2 (hp 1) (e1 ▸ h.falls 0 1 (by decide)) (h.pos 1) (e1 ▸ step 0 1 rfl)
  have e3 : m3 = a (p 2) := next h3 (hp 2) (e2 ▸ h.falls 1 2 (by decide)) (h.pos 2) (e2 ▸ step 1 2 rfl)
  exact next h4 (hp 3) (e3 ▸ h.falls 2 3 (by decide)) (h.pos 3) (e3 ▸ step 2 3 rfl)

/-- The entries that reach the fourth largest are the four. -/
theorem Clear.reaches (h : Clear z a p) (c : Fin 4096) : a (p 3) ≤ a c ↔ ∃ k, c = p k :=
  ⟨h.is_one c 3, fun ⟨k, e⟩ => e ▸ h.least k⟩

end Cert.Proof.Select
-- ==== Proof.Hard.lean ====
/- The loss over the reals: a score for every row and column, four hard negatives per row, the weighted exponentials, and
   the mean of the two directions' losses. -/
module

public import proofs.«01_k».proof.Proof.Select
public import Mathlib.Data.EReal.Basic
public import Mathlib.Analysis.SpecialFunctions.Log.Basic

@[expose] public section

noncomputable section

namespace Cert.Proof.Hard

open Cert.Proof.Select

/-- `p r` lists the four hard negatives of row `r` of the scores `s`: the four largest off the diagonal, in falling order,
    above all others, no three in one lane. -/
structure Hard (s : Fin 4096 → Fin 4096 → ℝ) (p : Fin 4096 → Fin 4 → Fin 4096) : Prop where
  falls : ∀ r i j, i < j → s r (p r j) < s r (p r i)
  off : ∀ r k, p r k ≠ r
  rest : ∀ r c, c ≠ r → (∀ k, c ≠ p r k) → s r c < s r (p r 3)
  lanes : ∀ r i j k, i ≠ j → j ≠ k → i ≠ k → (p r i).val % 128 = (p r j).val % 128 → (p r j).val % 128 ≠ (p r k).val % 128

variable (s : Fin 4096 → Fin 4096 → ℝ) (p : Fin 4096 → Fin 4 → Fin 4096)

/-- The weight of a score: two at a row's hard negatives, one elsewhere. -/
def weight (r c : Fin 4096) : ℝ := if c = r then 1 else if ∃ k, c = p r k then 2 else 1

/-- The exponential of the weighted score. -/
def term (r c : Fin 4096) : ℝ := Real.exp (s r c * weight p r c)

/-- The term off the diagonal, zero on it. -/
def offTerm (r c : Fin 4096) : ℝ := if c = r then 0 else term s p r c

/-- The loss: the mean of the two directions' mean losses, gathered into one quotient. -/
def loss : ℝ := ((∑ c, Real.log (∑ r, term s p r c)) + ∑ r, (Real.log (∑ c, term s p r c) - 2 * s r r)) / 8192

/-- The exponentials of row `r` with the diagonal zeroed, as extended reals. -/
def offExp (r c : Fin 4096) : EReal := if c = r then 0 else ((Real.exp (s r c) : ℝ) : EReal)

variable {s p}

/-- In a row with the diagonal zeroed the hard negatives' exponentials are the four largest. -/
theorem Hard.clear (h : Hard s p) (r : Fin 4096) : Clear (0 : EReal) (offExp s r) (p r) where
  falls i j hij := by
    unfold offExp
    rw [if_neg (h.off r j), if_neg (h.off r i)]
    exact EReal.coe_lt_coe_iff.mpr (Real.exp_lt_exp.mpr (h.falls r i j hij))
  above := by
    unfold offExp
    rw [if_neg (h.off r 3)]
    exact EReal.coe_pos.mpr (Real.exp_pos _)
  rest c hc := by
    unfold offExp
    rw [if_neg (h.off r 3)]
    split_ifs with hr
    · exact EReal.coe_pos.mpr (Real.exp_pos _)
    · exact EReal.coe_lt_coe_iff.mpr (Real.exp_lt_exp.mpr (h.rest r c hr hc))
  lanes := h.lanes r

/-- Squaring the exponentials that reach the fourth largest gives the weighted terms off the diagonal. -/
theorem Hard.squared (h : Hard s p) (r c : Fin 4096) :
    (if offExp s r (p r 3) ≤ offExp s r c then offExp s r c * offExp s r c else offExp s r c) = ((offTerm s p r c : ℝ) : EReal) := by
  rw [if_congr ((h.clear r).reaches c) rfl rfl]
  unfold offExp offTerm term weight
  by_cases hr : c = r
  · simp [hr]
  · simp only [if_neg hr]
    split_ifs
    · rw [← EReal.coe_mul, mul_two, Real.exp_add]
    · rw [mul_one]

/-- A term is the term off the diagonal and the diagonal's exponential. -/
theorem term_eq (r c : Fin 4096) : term s p r c = offTerm s p r c + if c = r then Real.exp (s r c) else 0 := by
  unfold offTerm
  split_ifs with h
  · rw [zero_add]; unfold term weight; rw [if_pos h, mul_one]
  · rw [add_zero]

theorem term_pos (r c : Fin 4096) : 0 < term s p r c := Real.exp_pos _

/-- A row's sum is its sum off the diagonal and the diagonal's exponential. -/
theorem row_sum (r : Fin 4096) : ∑ c, term s p r c = ∑ c, offTerm s p r c + Real.exp (s r r) := by
  simp only [term_eq, Finset.sum_add_distrib, Finset.sum_ite_eq', Finset.mem_univ, if_true]

/-- A real sum read among the extended reals is the sum of its terms read there. -/
theorem coe_sum {ι : Type*} (t : Finset ι) (f : ι → ℝ) : ((∑ i ∈ t, f i : ℝ) : EReal) = ∑ i ∈ t, ((f i : ℝ) : EReal) :=
  map_sum (⟨⟨Real.toEReal, EReal.coe_zero⟩, EReal.coe_add⟩ : ℝ →+ EReal) f t

/-- Row `q` of block `g`. -/
def row (g : Fin 16) (q : Fin 256) : Fin 4096 := ⟨256 * g.val + q.val, by have := g.isLt; have := q.isLt; omega⟩

theorem row_inj {g : Fin 16} {q q' : Fin 256} : row g q = row g q' ↔ q = q' := by
  unfold row; rw [Fin.mk.injEq, Fin.ext_iff]; omega

/-- A sum over all rows is the sum over the blocks of the sums over their rows. -/
theorem sum_rows (f : Fin 4096 → ℝ) : ∑ r, f r = ∑ g, ∑ q, f (row g q) := by
  rw [← Fintype.sum_prod_type' (f := fun g q => f (row g q))]
  symm
  refine Fintype.sum_equiv (finProdFinEquiv (m := 16) (n := 256)) _ _ fun x => ?_
  refine congrArg f (Fin.ext ?_)
  show 256 * x.1.val + x.2.val = x.2.val + 256 * x.1.val
  omega

end Cert.Proof.Hard

end
-- ==== Proof.Consts.lean ====
/- The float constants of the programs, as the extended reals their patterns denote. -/
module

public import Idealize.ShloMosaic.PureOps.Ideal

@[expose] public section

noncomputable section

namespace Cert.Proof.Consts

open Idealize.ShloMosaic

theorem ofBits_lowest : Ideal.ofBits .bf16 0xFF80#16 = ⊥ := by simp [Ideal.ofBits, Ideal.ieee]
theorem ofBits_highest : Ideal.ofBits .f32 0x7F800000#32 = ⊤ := by simp [Ideal.ofBits, Ideal.ieee]
theorem ofBits_1 : Ideal.ofBits .f32 0x3F800000#32 = ((1 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_7 : Ideal.ofBits .f32 0x40E00000#32 = ((7 : ℝ) : EReal) := by
  simp [Ideal.ofBits, Ideal.ieee, -EReal.coe_mul]; norm_num
theorem ofBits_100 : Ideal.ofBits .f32 0x42C80000#32 = ((100 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_4096 : Ideal.ofBits .f32 0x45800000#32 = ((4096 : ℝ) : EReal) := by
  simp [Ideal.ofBits, Ideal.ieee, -EReal.coe_mul]; norm_num
theorem ofBits_8192 : Ideal.ofBits .f32 0x46000000#32 = ((8192 : ℝ) : EReal) := by
  simp [Ideal.ofBits, Ideal.ieee, -EReal.coe_mul]; norm_num
theorem ofBits_fill : Ideal.ofBits .f32 0xCE6E6B28#32 = ((-1000000000 : ℝ) : EReal) := by
  simp [Ideal.ofBits, Ideal.ieee, -EReal.coe_mul]; norm_num

end Cert.Proof.Consts

end
-- ==== Proof.Point.lean ====
/- One grid point over the extended reals: its block of exponentials with the diagonal zeroed, the candidates, the fourth
   largest of a row, the weighted terms, and what the point adds to the column sums and to the sum over the rows. -/
module

public import proofs.«01_k».proof.Proof.Block
public import proofs.«01_k».proof.Proof.Hard
public import proofs.«01_k».proof.Proof.Consts
public import Idealize.ShloMosaic.Lib.Pointwise

@[expose] public section

noncomputable section

namespace Cert.Proof.Point

open Idealize.ShloMosaic Cert.KernelIdeal Cert.KernelIdeal.Gen Cert.Proof.Strips Cert.Proof.Block Cert.Proof.Lanes
  Cert.Proof.Select Cert.Proof.Hard Cert.Proof.Consts

/-! ## Reading windows -/

/-- Two indices of a matrix are equal when their coordinates are. -/
theorem ix2_ext {a b : ℕ} {i j : (⟨2, ![a, b]⟩ : Shape).Idx} (h0 : (i 0).val = (j 0).val) (h1 : (i 1).val = (j 1).val) : i = j := by
  funext x; apply Fin.ext; fin_cases x
  · exact h0
  · exact h1

section Square

variable (i : grid0.Coords) (g : Fin 16) (hg : (i 0).val = g.val)
include hg

theorem off1_val : k0_off1 i = ![0, 256 * g.val] := by rw [k0_off1_eq, hg]
theorem off2_val : k0_off2 i = ![0, 256 * g.val] := by rw [k0_off2_eq, hg]

/-- The window of the square sends a column to the row of that number. -/
theorem square_emb (q b : Fin 256) :
    (Rect.unit (s := S256x4096) (k0_off1 i) S256x256.size (k0_off1_inb i)).emb (ix2 q b) = ix2 q (row g b) := by
  have e := off1_val i g hg
  refine ix2_ext ?_ ?_
  · show k0_off1 i 0 + 1 * q.val = q.val
    rw [e]; show 0 + 1 * q.val = q.val; omega
  · show k0_off1 i 1 + 1 * b.val = 256 * g.val + b.val
    rw [e]; show 256 * g.val + 1 * b.val = 256 * g.val + b.val; omega

theorem square_apply (P : Vec Ideal S256x4096 .bf16) (q b : Fin 256) : square i P (ix2 q b) = P (ix2 q (row g b)) :=
  congrArg P (square_emb i g hg q b)

/-- A column outside the block's rows is outside the window of the square. -/
theorem square_not_mem (q : Fin 256) (c : Fin 4096) (hc : ∀ b, c ≠ row g b) :
    (ix2 q c : S256x4096.Idx) ∉ (Rect.unit (s := S256x4096) (k0_off1 i) S256x256.size (k0_off1_inb i)).set := by
  rw [Rect.mem_set_unit]
  intro h
  have h1 := h 1
  rw [off1_val i g hg] at h1
  have h1' : 256 * g.val ≤ c.val ∧ c.val < 256 * g.val + 256 := h1
  refine hc ⟨c.val - 256 * g.val, by omega⟩ (Fin.ext ?_)
  show c.val = 256 * g.val + (c.val - 256 * g.val)
  omega

end Square

/-- The kernel's test of the square's diagonal. -/
theorem eye_apply (q b : Fin 256) (x y : EReal) :
    Scalar.select (IntOp.cmpi CmpIPredicate.eq (BitVec.ofNat 32 q.val) (BitVec.ofNat 32 b.val)) x y = if b = q then x else y := by
  have : (BitVec.ofNat 32 q.val = BitVec.ofNat 32 b.val) ↔ b = q := by
    rw [← BitVec.toNat_inj, BitVec.toNat_ofNat, BitVec.toNat_ofNat, Fin.ext_iff]
    have := q.isLt; have := b.isLt
    omega
  by_cases h : b = q
  · rw [if_pos h]; simp [Scalar.select, IntOp.cmpi, this.mpr h]
  · rw [if_neg h]; simp [Scalar.select, IntOp.cmpi, beq_eq_false_iff_ne.mpr (mt this.mp h)]

theorem pay6_apply (S : Vec Ideal S256x256 .bf16) (q b : Fin 256) :
    k0_pay6 (F := Ideal) S (ix2 q b) = if b = q then S (ix2 q b) else 0 := by
  rw [← eye_apply]; pointwise [k0_pay6, k0_pay5]

theorem pay9_apply (S : Vec Ideal S256x256 .bf16) (q b : Fin 256) :
    k0_pay9 (F := Ideal) S (ix2 q b) = if b = q then 0 else S (ix2 q b) := by
  rw [← eye_apply]; pointwise [k0_pay9, k0_pay5]

theorem pay7_apply (S : Vec Ideal S256x256 .bf16) (q : Fin 256) : k0_pay7 (F := Ideal) S (ix1 q) = S (ix2 q q) := by
  have : k0_pay7 (F := Ideal) S (ix1 q) = ∑ b, k0_pay6 (F := Ideal) S (ix2 q b) := by pointwise [k0_pay7]
  rw [this]
  simp only [pay6_apply, Finset.sum_ite_eq', Finset.mem_univ, if_true]

theorem pay8_apply (S : Vec Ideal S256x256 .bf16) (q : Fin 256) : k0_pay8 (F := Ideal) S (ix2 0 q) = S (ix2 q q) := by
  have : k0_pay8 (F := Ideal) S (ix2 0 q) = ∑ b, k0_pay6 (F := Ideal) S (ix2 b q) := by pointwise [k0_pay8]
  rw [this]
  simp only [pay6_apply, Finset.sum_ite_eq, Finset.mem_univ, if_true]

/-! ## The greatest of a row, and the candidates -/

/-- The maximum folded from the bottom is the greatest. -/
theorem fold_isMax {n : ℕ} (hn : 0 < n) (w : Fin n → EReal) :
    IsMax w (Finset.univ.fold max (Ideal.ofBits .bf16 0xFF80#16) w) := by
  rw [ofBits_lowest]
  refine ⟨fun i => (Finset.le_fold_max _).mpr (Or.inr ⟨i, Finset.mem_univ i, le_rfl⟩), ?_⟩
  rcases (Finset.le_fold_max (f := w) (b := (⊥ : EReal)) (s := Finset.univ) _).mp le_rfl with h | ⟨i, -, hi⟩
  · exact ⟨⟨0, hn⟩, le_antisymm ((Finset.le_fold_max _).mpr (Or.inr ⟨_, Finset.mem_univ _, le_rfl⟩)) (h.trans bot_le)⟩
  · exact ⟨i, le_antisymm ((Finset.le_fold_max _).mpr (Or.inr ⟨_, Finset.mem_univ _, le_rfl⟩)) hi⟩

/-- The row of a block that row `r` of strip `g` is. -/
def stripRow (g : ℕ) (hg : g < 8) (r : Fin 32) : Fin 256 := ⟨32 * g + r.val, by have := r.isLt; omega⟩

theorem chunk_apply (E : Vec Ideal S256x4096 .bf16) (g k : ℕ) (hg : g < 8) (hk : k < 32) (r : Fin 32) (l : Fin 128) :
    chunk E g k hg hk (ix2 r l) = lane 0 (fun c => E (ix2 (stripRow g hg r) c)) l k := by
  unfold lane
  rw [dif_pos hk]
  refine congrArg E (ix2_ext ?_ ?_)
  · show 32 * g + 1 * r.val = 32 * g + r.val; omega
  · show 128 * k + 1 * l.val = 128 * k + l.val; omega

/-- The fold over the chunks keeps, in each lane, the two greatest of the lane. -/
theorem foldTo_apply (E : Vec Ideal S256x4096 .bf16) (g : ℕ) (hg : g < 8) (r : Fin 32) (l : Fin 128) : ∀ (k : ℕ) (h : k ≤ 32),
    ((foldTo E g hg k h).1 (ix2 r l), (foldTo E g hg k h).2 (ix2 r l)) = two 0 (lane 0 (fun c => E (ix2 (stripRow g hg r) c)) l) k
  | 0, _ => by
    have : (broadcast S32x128 (Scalar.ofBits .bf16 0x0000#16) : FVec Ideal S32x128 .bf16) (ix2 r l) = 0 := by pointwise
    show (_, _) = ((0 : EReal), (0 : EReal))
    exact Prod.ext this this
  | k + 1, h => by
    have ih := foldTo_apply E g hg r l k (Nat.le_of_succ_le h)
    have e1 := congrArg Prod.fst ih
    have e2 := congrArg Prod.snd ih
    dsimp only at e1 e2
    unfold two
    rw [← e1, ← e2, ← chunk_apply E g k hg h r l]
    rfl

/-- What a row's candidates hold at column `e`: the greatest of the lane in the left half, the second in the right. -/
def best (a : Fin 4096 → EReal) (e : Fin 256) : EReal :=
  if e.val < 128 then (two 0 (lane 0 a ⟨e.val % 128, Nat.mod_lt _ (by decide)⟩) 32).1
  else (two 0 (lane 0 a ⟨e.val % 128, Nat.mod_lt _ (by decide)⟩) 32).2

/-- The candidates of a block, index by index. -/
def bests (E : Vec Ideal S256x4096 .bf16) (y : S256x256.Idx) : EReal :=
  best (fun c => E (ix2 (n0 := 256) (n1 := 4096) (y 0) c)) (y 1)

theorem strip_apply (E : Vec Ideal S256x4096 .bf16) (g : ℕ) (hg : g < 8) :
    ∀ pc ∈ strip (F := Ideal) E g hg, ∀ x : pc.1.shape.Idx, pc.2 x = bests E (pc.1.emb x) := by
  intro pc hpc
  unfold strip at hpc
  rcases List.mem_cons.mp hpc with rfl | hpc
  · intro x
    obtain ⟨r, l, rfl⟩ : ∃ (r : Fin 32) (l : Fin 128), x = ix2 r l := ⟨x 0, x 1, eq_ix2 x⟩
    have e : (Rect.unit (s := S256x256) ![32 * g, 128 * 1] S32x128.size (half_inb g 1 hg (by decide))).emb (ix2 r l)
        = ix2 (stripRow g hg r) ⟨128 + l.val, by have := l.isLt; omega⟩ := by
      refine ix2_ext ?_ ?_
      · show 32 * g + 1 * r.val = 32 * g + r.val; omega
      · show 128 * 1 + 1 * l.val = 128 + l.val; omega
    rw [e]
    show shapeCast S32x128 (foldTo E g hg 32 le_rfl).2 shapeCasts_S32x128_S32x128 (ix2 r l) = best (fun c => E (ix2 (stripRow g hg r) c)) ⟨128 + l.val, _⟩
    rw [shapeCast_self]
    unfold best
    rw [if_neg (by dsimp only; omega)]
    have el : (⟨(128 + l.val) % 128, Nat.mod_lt _ (by decide)⟩ : Fin 128) = l := Fin.ext (by dsimp only; have := l.isLt; omega)
    rw [el, ← foldTo_apply E g hg r l 32 le_rfl]
  · rcases List.mem_singleton.mp hpc with rfl
    intro x
    obtain ⟨r, l, rfl⟩ : ∃ (r : Fin 32) (l : Fin 128), x = ix2 r l := ⟨x 0, x 1, eq_ix2 x⟩
    have e : (Rect.unit (s := S256x256) ![32 * g, 128 * 0] S32x128.size (half_inb g 0 hg (by decide))).emb (ix2 r l)
        = ix2 (stripRow g hg r) ⟨l.val, by have := l.isLt; omega⟩ := by
      refine ix2_ext ?_ ?_
      · show 32 * g + 1 * r.val = 32 * g + r.val; omega
      · show 128 * 0 + 1 * l.val = l.val; omega
    rw [e]
    show shapeCast S32x128 (foldTo E g hg 32 le_rfl).1 shapeCasts_S32x128_S32x128 (ix2 r l) = best (fun c => E (ix2 (stripRow g hg r) c)) ⟨l.val, _⟩
    rw [shapeCast_self]
    unfold best
    rw [if_pos l.isLt]
    have el : (⟨l.val % 128, Nat.mod_lt _ (by decide)⟩ : Fin 128) = l := Fin.ext (by dsimp only; have := l.isLt; omega)
    rw [el, ← foldTo_apply E g hg r l 32 le_rfl]

/-- Every stored strip's pieces are among the block's. -/
theorem strip_sub (E : Vec Ideal S256x4096 .bf16) (g : ℕ) (hg : g < 8) : ∀ pc ∈ strip (F := Ideal) E g hg, pc ∈ strips (F := Ideal) E := by
  intro pc hpc
  unfold strips
  simp only [List.mem_append]
  interval_cases g <;> tauto

/-- And every piece of the block is one of a strip's. -/
theorem strips_sub (E : Vec Ideal S256x4096 .bf16) : ∀ pc ∈ strips (F := Ideal) E, ∃ g, ∃ hg : g < 8, pc ∈ strip (F := Ideal) E g hg := by
  intro pc hpc
  unfold strips at hpc
  simp only [List.mem_append] at hpc
  rcases hpc with ((((((h | h) | h) | h) | h) | h) | h) | h <;> exact ⟨_, _, h⟩

/-- The candidates hold the two greatest of every lane of every row. -/
theorem strips_canon (E : Vec Ideal S256x4096 .bf16) (y : S256x256.Idx) : View.canon (strips (F := Ideal) E) y = bests E y := by
  refine View.canon_apply_of_pieces (Val := Elt Ideal) (e := .bf16) (bests E) _ (fun pc hpc x => ?_) y ?_
  · obtain ⟨g, hg, h⟩ := strips_sub E pc hpc
    exact strip_apply E g hg pc h x
  · have h0 : (y 0).val < 256 := (y 0).isLt
    have h1 : (y 1).val < 256 := (y 1).isLt
    have hg : (y 0).val / 32 < 8 := by omega
    by_cases hl : (y 1).val < 128
    · refine ⟨_, strip_sub E _ hg _ (List.mem_cons_of_mem _ (List.mem_singleton_self _)), ?_⟩
      rw [Rect.mem_set_unit]
      intro a; fin_cases a
      · show 32 * ((y 0).val / 32) ≤ (y 0).val ∧ (y 0).val < 32 * ((y 0).val / 32) + 32; omega
      · show 128 * 0 ≤ (y 1).val ∧ (y 1).val < 128 * 0 + 128; omega
    · refine ⟨_, strip_sub E _ hg _ List.mem_cons_self, ?_⟩
      rw [Rect.mem_set_unit]
      intro a; fin_cases a
      · show 32 * ((y 0).val / 32) ≤ (y 0).val ∧ (y 0).val < 32 * ((y 0).val / 32) + 32; omega
      · show 128 * 1 ≤ (y 1).val ∧ (y 1).val < 128 * 1 + 128; omega

/-- A candidate is zero or an entry of its row. -/
theorem best_mem (a : Fin 4096 → EReal) (e : Fin 256) : best a e = 0 ∨ ∃ c, best a e = a c := by
  have h := Lanes.mem (0 : EReal) (lane 0 a ⟨e.val % 128, Nat.mod_lt _ (by decide)⟩) 32
  have up : ∀ v : EReal, (v = 0 ∨ ∃ k, k < 32 ∧ v = lane 0 a ⟨e.val % 128, Nat.mod_lt _ (by decide)⟩ k) → v = 0 ∨ ∃ c, v = a c := by
    rintro v (hv | ⟨k, hk, hv⟩)
    · exact Or.inl hv
    · unfold lane at hv
      rw [dif_pos hk] at hv
      exact Or.inr ⟨_, hv⟩
  unfold best
  split_ifs
  · exact up _ h.1
  · exact up _ h.2

/-- Each of the four largest is a candidate. -/
theorem best_kept {a : Fin 4096 → EReal} {p : Fin 4 → Fin 4096} (h : Clear 0 a p) (k : Fin 4) : ∃ e, best a e = a (p k) := by
  obtain ⟨l, hl⟩ := h.kept k
  have hlt := l.isLt
  rcases hl with hl | hl
  · refine ⟨⟨l.val, by omega⟩, ?_⟩
    unfold best
    rw [if_pos hlt, hl]
    have el : (⟨l.val % 128, Nat.mod_lt _ (by decide)⟩ : Fin 128) = l := Fin.ext (by dsimp only; omega)
    rw [el]
  · refine ⟨⟨128 + l.val, by omega⟩, ?_⟩
    unfold best
    rw [if_neg (by dsimp only; omega), hl]
    have el : (⟨(128 + l.val) % 128, Nat.mod_lt _ (by decide)⟩ : Fin 128) = l := Fin.ext (by dsimp only; omega)
    rw [el]

/-- Three rounds: the candidates below the second greatest. -/
theorem pay320_apply (S : Vec Ideal S256x256 .bf16) (q e : Fin 256) :
    ∃ m1 m2, IsMax (fun b => S (ix2 q b)) m1 ∧ IsMax (below 0 (fun b => S (ix2 q b)) m1) m2 ∧
      ∀ e, k0_pay320 (F := Ideal) S (ix2 q e) = below 0 (fun b => S (ix2 q b)) m2 e := by
  refine ⟨_, _, fold_isMax (by decide) _, fold_isMax (by decide) _, fun e => ?_⟩
  pointwise [k0_pay320]
  rfl

/-- The rounds after: where an entry reaches the fourth greatest candidate it is squared. -/
theorem pay321_apply (E : Vec Ideal S256x4096 .bf16) (S S' : Vec Ideal S256x256 .bf16) (q : Fin 256) :
    ∃ m3 m4, IsMax (fun b => S' (ix2 q b)) m3 ∧ IsMax (below 0 (fun b => S (ix2 q b)) m3) m4 ∧
      ∀ c, k0_pay321 (F := Ideal) E S S' (ix2 q c) = if m4 ≤ E (ix2 q c) then E (ix2 q c) * E (ix2 q c) else E (ix2 q c) := by
  refine ⟨_, _, fold_isMax (by decide) _, fold_isMax (by decide) _, fun c => ?_⟩
  pointwise [k0_pay321]
  rfl

set_option maxRecDepth 8192 in
theorem pay323_apply (E : Vec Ideal S256x4096 .bf16) (S S' : Vec Ideal S256x256 .bf16) (c : Fin 4096) :
    k0_pay323 (F := Ideal) E S S' (ix2 0 c) = ∑ q, k0_pay321 (F := Ideal) E S S' (ix2 q c) := by
  pointwise [k0_pay323]

/-- The sum of the logarithms of a column of 256. -/
theorem sum_log_col (w : FVec Ideal S256 .f32) : extractAt ![0, 0] (shapeCast S1x1 (multiReduction (F := Ideal) .add [1] S1 (shapeCast S1x256 (log w) shapeCasts_S256_S1x256) 0x00000000#32 reduces_S1x256_S1 (.inl rfl) rfl) shapeCasts_S1_S1x1) inpos_S1x1_p0_0
    = ∑ q : Fin 256, Ideal.log (w (ix1 q)) := by
  pointwise

/-- The sum of the logarithms of a row of 256. -/
theorem sum_log_row (v : FVec Ideal S1x256 .f32) : extractAt ![0, 0, 0] (shapeCast S1x1x1 (multiReduction (F := Ideal) .add [1, 2] S1 (shapeCast S1x1x256 (log v) shapeCasts_S1x256_S1x1x256) 0x00000000#32 reduces_S1x1x256_S1 (.inl rfl) rfl) shapeCasts_S1_S1x1x1) inpos_S1x1x1_p0_0_0
    = ∑ q : Fin 256, Ideal.log (v (ix2 0 q)) := by
  pointwise
  exact Fin.sum_univ_one _

theorem row_sum_apply (X : FVec Ideal S256x4096 .bf16) (q : Fin 256) :
    multiReduction (F := Ideal) .add [1] S256 (extf .f32 X bitsLt_bf16_f32) 0x00000000#32 reduces_S256x4096_S256 (.inl rfl) rfl (ix1 q)
      = ∑ c : Fin 4096, X (ix2 q c) := by
  pointwise

theorem pay322_apply (u : FVec Ideal S256 .f32) (v : FVec Ideal S1x256 .f32) (E : Vec Ideal S256x4096 .bf16) (S S' : Vec Ideal S256x256 .bf16) (l : Fin 128) :
    k0_pay322 (F := Ideal) u v E S S' (ix2 0 l) = Ideal.div ((∑ q : Fin 256, Ideal.log ((∑ c : Fin 4096, k0_pay321 (F := Ideal) E S S' (ix2 q c)) + u (ix1 q))) -
      ((2 : ℝ) : EReal) * ∑ q : Fin 256, Ideal.log (v (ix2 0 q))) ((128 : ℝ) : EReal) := by
  rw [← ofBits_2, ← ofBits_128, ← sum_log_row v]
  have : ∀ q, (∑ c : Fin 4096, k0_pay321 (F := Ideal) E S S' (ix2 q c)) + u (ix1 q)
      = addf (multiReduction (F := Ideal) .add [1] S256 (extf .f32 (k0_pay321 (F := Ideal) E S S') bitsLt_bf16_f32) 0x00000000#32 reduces_S256x4096_S256 (.inl rfl) rfl) u (ix1 q) := by
    intro q
    rw [← row_sum_apply]; rfl
  rw [Finset.sum_congr rfl fun q _ => congrArg Ideal.log (this q), ← sum_log_col]
  rfl

/-! ## The block of one grid point -/

section Point

variable (i : grid0.Coords) (g : Fin 16) (hg : (i 0).val = g.val) (s : Fin 4096 → Fin 4096 → ℝ)
  (P : Vec Ideal S256x4096 .bf16) (hP : ∀ q c, P (ix2 q c) = ((Real.exp (s (row g q) c) : ℝ) : EReal))
include hg hP

/-- The block with the diagonal zeroed holds the exponentials of its rows off the diagonal. -/
theorem off_apply (q : Fin 256) (c : Fin 4096) : off i P (ix2 q c) = offExp s (row g q) c := by
  unfold off offPieces offExp
  by_cases hc : ∃ b, c = row g b
  · obtain ⟨b, rfl⟩ := hc
    rw [← square_emb i g hg q b, View.canon_cons_emb, pay9_apply, square_apply i g hg, hP, if_congr row_inj rfl rfl]
  · push Not at hc
    refine Eq.trans (View.canon_cons_of_not_mem (y := (ix2 q c : S256x4096.Idx)) _ _ (square_not_mem i g hg q c hc)) ?_
    rw [View.canon_unit_zero hz, hP, if_neg (hc q)]

variable {p : Fin 4096 → Fin 4 → Fin 4096} (hh : Hard s p)
include hh

/-- The block's terms: squared where they reach the row's fourth largest, they are the weighted terms off the diagonal. -/
theorem sel_apply (q : Fin 256) (c : Fin 4096) :
    k0_pay321 (off i P) (cand i P) (k0_pay320 (cand i P)) (ix2 q c) = ((offTerm s p (row g q) c : ℝ) : EReal) := by
  obtain ⟨m1, m2, h1, h2, h12⟩ := pay320_apply (cand i P) q 0
  obtain ⟨m3, m4, h3, h4, h34⟩ := pay321_apply (off i P) (cand i P) (k0_pay320 (cand i P)) q
  have hrow : (fun c => off i P (ix2 q c)) = offExp s (row g q) := funext fun c => off_apply i g hg s P hP q c
  have hcand : (fun b => cand i P (ix2 q b)) = best (offExp s (row g q)) := by
    funext b
    rw [← hrow]
    exact strips_canon (off i P) (ix2 q b)
  simp only [h12] at h3
  rw [hcand] at h1 h2 h3 h4
  have h5 := (hh.clear (row g q)).fourth (best_mem _) (best_kept (hh.clear (row g q))) h1 h2 h3 h4
  rw [h34, h5, off_apply i g hg s P hP q c]
  exact hh.squared (row g q) c

/-- What the block adds to the sum of column `c`, its diagonal apart. -/
theorem cols_apply (c : Fin 4096) : cols i P (ix2 0 c) = ((∑ q, offTerm s p (row g q) c : ℝ) : EReal) := by
  unfold cols
  rw [pay323_apply, coe_sum]
  exact Finset.sum_congr rfl fun q _ => sel_apply i g hg s P hP hh q c

/-- What the block adds to the sum over the rows, in every lane. -/
theorem part_apply (l : Fin 128) : part i P (ix2 0 l) =
    (((∑ q, (Real.log (∑ c, term s p (row g q) c) - 2 * s (row g q) (row g q))) / 128 : ℝ) : EReal) := by
  unfold part
  rw [pay322_apply]
  have e1 : ∀ q : Fin 256, Ideal.log ((∑ c, k0_pay321 (off i P) (cand i P) (k0_pay320 (cand i P)) (ix2 q c)) + k0_pay7 (square i P) (ix1 q))
      = ((Real.log (∑ c, term s p (row g q) c) : ℝ) : EReal) := by
    intro q
    rw [Finset.sum_congr rfl fun c _ => sel_apply i g hg s P hP hh q c, pay7_apply, square_apply i g hg, hP, ← coe_sum,
      ← EReal.coe_add, ← row_sum, Ideal.log_coe, if_neg (not_le.mpr (Finset.sum_pos (fun c _ => term_pos _ c) ⟨0, Finset.mem_univ _⟩))]
  have e2 : ∀ q : Fin 256, Ideal.log (k0_pay8 (square i P) (ix2 0 q)) = ((s (row g q) (row g q) : ℝ) : EReal) := by
    intro q
    rw [pay8_apply, square_apply i g hg, hP, Ideal.log_coe, if_neg (not_le.mpr (Real.exp_pos _)), Real.log_exp]
  simp only [e1, e2]
  rw [← coe_sum, ← coe_sum, ← EReal.coe_mul, ← EReal.coe_sub, Ideal.div_coe (by norm_num), ← EReal.coe_mul,
    Finset.sum_sub_distrib, Finset.mul_sum, mul_one_div]

omit hh in
/-- The diagonal's exponentials are added at the columns of the block's rows. -/
theorem addDiag_apply (X : Vec Ideal S1x4096 .f32) (c : Fin 4096) : addDiag i P X (ix2 0 c) =
    X (ix2 0 c) + ((∑ q, (if c = row g q then Real.exp (s (row g q) c) else 0) : ℝ) : EReal) := by
  have e := off2_val i g hg
  have hemb : ∀ b : Fin 256, (Rect.unit (s := S1x4096) (k0_off2 i) S1x256.size (k0_off2_inb i)).emb (ix2 0 b) = ix2 0 (row g b) := by
    intro b
    refine ix2_ext ?_ ?_
    · show k0_off2 i 0 + 1 * 0 = 0
      rw [e]; rfl
    · show k0_off2 i 1 + 1 * b.val = 256 * g.val + b.val
      rw [e]; show 256 * g.val + 1 * b.val = 256 * g.val + b.val; omega
  unfold addDiag
  by_cases hc : ∃ b, c = row g b
  · obtain ⟨b, rfl⟩ := hc
    rw [← hemb b, View.canon_cons_emb]
    have : k0_pay1 (k0_pay328 (k0_pay8 (square i P)) (View.ld X (Rect.unit (s := S1x4096) (k0_off2 i) S1x256.size (k0_off2_inb i)))) (ix2 0 b)
        = View.ld X (Rect.unit (s := S1x4096) (k0_off2 i) S1x256.size (k0_off2_inb i)) (ix2 0 b) + k0_pay8 (square i P) (ix2 0 b) := by
      unfold k0_pay1 k0_pay328
      dsimp only
      rw [shapeCast_self]; rfl
    rw [this, pay8_apply, square_apply i g hg, hP]
    have : ∀ q : Fin 256, (if row g b = row g q then Real.exp (s (row g q) (row g b)) else 0) = if b = q then Real.exp (s (row g q) (row g b)) else 0 :=
      fun q => if_congr row_inj rfl rfl
    simp only [this, Finset.sum_ite_eq, Finset.mem_univ, if_true]
    rfl
  · push Not at hc
    have hn : (ix2 0 c : S1x4096.Idx) ∉ (Rect.unit (s := S1x4096) (k0_off2 i) S1x256.size (k0_off2_inb i)).set := by
      rw [Rect.mem_set_unit]
      intro h
      have h1 := h 1
      rw [e] at h1
      have h1' : 256 * g.val ≤ c.val ∧ c.val < 256 * g.val + 256 := h1
      refine hc ⟨c.val - 256 * g.val, by omega⟩ (Fin.ext ?_)
      show c.val = 256 * g.val + (c.val - 256 * g.val)
      omega
    refine Eq.trans (View.canon_cons_of_not_mem (y := (ix2 0 c : S1x4096.Idx)) _ _ hn) ?_
    rw [View.canon_unit_zero hz, Finset.sum_eq_zero fun q _ => if_neg (hc q), EReal.coe_zero, add_zero]

end Point

end Cert.Proof.Point

end
-- ==== Proof.Ranks.lean ====
/- The order of a row of scores once its diagonal entry is filled with a low value: the row's columns from the greatest entry
   down, and what the greatest-`K` operation returns on the rows. -/
module

public import proofs.«01_k».proof.Proof.Hard
public import proofs.«01_k».proof.Proof.Consts
public import Idealize.ShloMosaic.Lib.Pointwise
public import Idealize.ShloMosaic.Lib.SortFacts

@[expose] public section

noncomputable section

namespace Cert.Proof.Ranks

open Idealize.ShloMosaic Cert.Proof.Hard Cert.Proof.Consts

/-- The scores of real features: the products of a row of the first with a row of the second, by a hundred sevenths. -/
def score (v t : Fin 4096 → Fin 512 → ℝ) (r c : Fin 4096) : ℝ := (∑ d, v r d * t c d) * 100 / 7

/-- The scores with the diagonal filled with minus a thousand millions. -/
def filled (s : Fin 4096 → Fin 4096 → ℝ) (r c : Fin 4096) : ℝ := if c = r then -1000000000 else s r c

/-- The columns of row `r` from the greatest filled score down. -/
def rank (s : Fin 4096 → Fin 4096 → ℝ) (r : Fin 4096) : Fin 4096 → Fin 4096 :=
  sortedFrom fun k k' => decide (filled s r k' < filled s r k)

/-- Rank `k` of a row, for `k` below `K`. -/
def pick (s : Fin 4096 → Fin 4096 → ℝ) {K : ℕ} (hK : K ≤ 4096) (r : Fin 4096) (k : Fin K) : Fin 4096 := rank s r ⟨k.val, k.isLt.trans_le hK⟩

theorem rank_injective (s : Fin 4096 → Fin 4096 → ℝ) (r : Fin 4096) : Function.Injective (rank s r) := sortedFrom_injective _

theorem rank_surjective (s : Fin 4096 → Fin 4096 → ℝ) (r : Fin 4096) : Function.Surjective (rank s r) := sortedFrom_surjective _

/-- Down the ranks the filled scores do not rise. -/
theorem rank_antitone (s : Fin 4096 → Fin 4096 → ℝ) (r : Fin 4096) {i j : Fin 4096} (h : i ≤ j) :
    filled s r (rank s r j) ≤ filled s r (rank s r i) := by
  rcases eq_or_lt_of_le h with rfl | hij
  · exact le_rfl
  · have := sortedFrom_noInversion (fun k k' => decide (filled s r k' < filled s r k)) (fun k k' => decide (filled s r k' < filled s r k))
      (fun a b hab => by simp only [decide_eq_true_eq, decide_eq_false_iff_not] at *; exact hab.le.not_gt)
      (fun a b hab => hab)
      (fun a b c hab hbc => by simp only [decide_eq_false_iff_not, not_lt] at *; exact hab.trans hbc) i j hij
    exact not_lt.mp (of_decide_eq_false this)

/-- Over the extended reals the total order's "greater" is the order's. -/
theorem gt_eq (a b : ℝ) : (FloatOps.cmpfTotal (F := Ideal) (φ := .f32) .gt (a : EReal) (b : EReal) == 1#1) = decide (b < a) := by
  show (BitVec.ofBool (decide ((b : EReal) < (a : EReal))) == 1#1) = decide (b < a)
  by_cases h : b < a
  · rw [decide_eq_true h, decide_eq_true (EReal.coe_lt_coe_iff.mpr h)]; rfl
  · rw [decide_eq_false h, decide_eq_false (mt EReal.coe_lt_coe_iff.mp h)]; rfl

/-- The test of the diagonal: the row's number, with zero added, against the column's. -/
theorem eye_apply (r c : Fin 4096) (x y : EReal) :
    Scalar.select (IntOp.cmpi CmpIPredicate.eq (IntOp.addi (BitVec.ofNat 32 r.val) 0#32) (BitVec.ofNat 32 c.val)) x y = if c = r then x else y := by
  have e : IntOp.addi (BitVec.ofNat 32 r.val) 0#32 = BitVec.ofNat 32 r.val := BitVec.add_zero _
  have : (BitVec.ofNat 32 r.val = BitVec.ofNat 32 c.val) ↔ c = r := by
    rw [← BitVec.toNat_inj, BitVec.toNat_ofNat, BitVec.toNat_ofNat, Fin.ext_iff]
    have := r.isLt; have := c.isLt
    omega
  rw [e]
  by_cases h : c = r
  · rw [if_pos h]; simp [Scalar.select, IntOp.cmpi, this.mpr h]
  · rw [if_neg h]; simp [Scalar.select, IntOp.cmpi, beq_eq_false_iff_ne.mpr (mt this.mp h)]

/-- The host's product, multiplied by a hundred and divided by seven, is the score. -/
theorem score_eq (v t : Fin 4096 → Fin 512 → ℝ) (r c : Fin 4096) :
    Ideal.div ((∑ d, ((v r d : ℝ) : EReal) * ((t c d : ℝ) : EReal)) * Ideal.ofBits .f32 0x42C80000#32) (Ideal.ofBits .f32 0x40E00000#32)
      = ((score v t r c : ℝ) : EReal) := by
  simp only [← EReal.coe_mul, ← coe_sum]
  rw [ofBits_100, ofBits_7, Ideal.div_coe (by norm_num), ← EReal.coe_mul, ← EReal.coe_mul, mul_one_div]
  rfl

section TopK

/-- The row of an index moved along its second axis. -/
theorem along_eq (r c : Fin 4096) :
    (fun i : Fin 4096 => (ix2 r c : (⟨2, ![4096, 4096]⟩ : Shape).Idx).along 1 i) = fun i => ix2 r i := by
  funext i x
  unfold Shape.Idx.along
  fin_cases x <;> rfl

theorem iota_apply (r c : Fin 4096) : iotaInDim (⟨2, ![4096, 4096]⟩ : Shape) 32 1 (ix2 r c) = BitVec.ofNat 32 c.val := rfl

theorem corner_eq {K : ℕ} (hK : K ≤ 4096) (h : (⟨2, ![4096, 4096]⟩ : Shape).Slices (fun _ => 0) ⟨2, ![4096, K]⟩) (r : Fin 4096) (k : Fin K) :
    (fun a => ⟨0 + ((ix2 r k : (⟨2, ![4096, K]⟩ : Shape).Idx) (a.cast h.1.symm)).val, Nat.lt_of_lt_of_le (Nat.add_lt_add_left (Fin.isLt _) _) (h.2 a)⟩ :
      (⟨2, ![4096, 4096]⟩ : Shape).Idx) = ix2 r ⟨k.val, k.isLt.trans_le hK⟩ := by
  funext x
  fin_cases x
  · exact Fin.ext (Nat.zero_add _)
  · exact Fin.ext (Nat.zero_add _)

/-- Every row sorted from the greatest entry down, with the columns the entries come from. -/
def sorted (X : FVec Ideal (⟨2, ![4096, 4096]⟩ : Shape) .f32) :
    ((⟨2, ![4096, 4096]⟩ : Shape).Idx → Ideal .f32) × ((⟨2, ![4096, 4096]⟩ : Shape).Idx → BitVec 32) :=
  Host.sort2 (⟨2, ![4096, 4096]⟩ : Shape) 1 (fun l r => FloatOps.cmpfTotal (F := Ideal) (φ := .f32) .gt l.1 r.1) X
    (fun i => if hd : 1 < (⟨2, ![4096, 4096]⟩ : Shape).rank then iotaInDim (⟨2, ![4096, 4096]⟩ : Shape) 32 ⟨1, hd⟩ i else 0#32)

variable (s : Fin 4096 → Fin 4096 → ℝ) (X : FVec Ideal (⟨2, ![4096, 4096]⟩ : Shape) .f32)
  (hX : ∀ r c, X (ix2 r c) = ((filled s r c : ℝ) : EReal)) {K : ℕ} (hK : K ≤ 4096)
  (h : (⟨2, ![4096, 4096]⟩ : Shape).Slices (fun _ => 0) ⟨2, ![4096, K]⟩) (r : Fin 4096) (k : Fin K)
include hX

theorem order_eq :
    (sortedFrom fun i i' : Fin 4096 => FloatOps.cmpfTotal (F := Ideal) (φ := .f32) .gt (X (ix2 r i)) (X (ix2 r i')) == 1#1) = rank s r := by
  unfold rank
  refine congrArg sortedFrom ?_
  funext i i'
  exact (congrArg₂ (fun a b => FloatOps.cmpfTotal (F := Ideal) (φ := .f32) .gt a b == 1#1) (hX _ _) (hX _ _)).trans (gt_eq _ _)

/-- The values of the greatest `K` are the filled scores at the first ranks. -/
theorem topK_values :
    (Host.topK (⟨2, ![4096, K]⟩ : Shape) 1 (FloatOps.cmpfTotal (F := Ideal) (φ := .f32) .gt) X h).1 (ix2 r k) = ((filled s r (pick s hK r k) : ℝ) : EReal) := by
  refine (congrArg (sorted X).1 (corner_eq hK h r k)).trans ?_
  unfold sorted Host.sort2
  rw [dif_pos (by decide)]
  refine (congrArg (fun f : Fin 4096 → (⟨2, ![4096, 4096]⟩ : Shape).Idx => X (f (sortedFrom (fun i i' : Fin 4096 =>
    FloatOps.cmpfTotal (F := Ideal) (φ := .f32) .gt (X (f i)) (X (f i')) == 1#1) ⟨k.val, k.isLt.trans_le hK⟩))) (along_eq r ⟨k.val, k.isLt.trans_le hK⟩)).trans ?_
  show X (ix2 r _) = _
  rw [order_eq s X hX, hX]
  rfl

/-- Their positions are the first ranks' columns. -/
theorem topK_indices :
    (Host.topK (⟨2, ![4096, K]⟩ : Shape) 1 (FloatOps.cmpfTotal (F := Ideal) (φ := .f32) .gt) X h).2 (ix2 r k) = BitVec.ofNat 32 (pick s hK r k).val := by
  refine (congrArg (sorted X).2 (corner_eq hK h r k)).trans ?_
  unfold sorted Host.sort2
  rw [dif_pos (by decide)]
  refine (congrArg (fun f : Fin 4096 → (⟨2, ![4096, 4096]⟩ : Shape).Idx => iotaInDim (⟨2, ![4096, 4096]⟩ : Shape) 32 1 (f (sortedFrom (fun i i' : Fin 4096 =>
    FloatOps.cmpfTotal (F := Ideal) (φ := .f32) .gt (X (f i)) (X (f i')) == 1#1) ⟨k.val, k.isLt.trans_le hK⟩))) (along_eq r ⟨k.val, k.isLt.trans_le hK⟩)).trans ?_
  refine (iota_apply r _).trans ?_
  exact congrArg (fun f : Fin 4096 → Fin 4096 => BitVec.ofNat 32 (f ⟨k.val, k.isLt.trans_le hK⟩).val) (order_eq s X hX r)

end TopK

end Cert.Proof.Ranks
-- ==== Proof.Total.lean ====
/- The kernel's result over the extended reals: the loss of the scores, in every lane. -/
module

public import proofs.«01_k».proof.Proof.Fold
public import proofs.«01_k».proof.Proof.Point
public import proofs.«01_k».proof.Proof.Ranks
public import Idealize.ShloMosaic.Lib.Pipeline.ValueKit

@[expose] public section

noncomputable section

namespace Cert.Proof.Total

open Idealize.ShloMosaic Idealize.ShloMosaic.TcCoe Cert.KernelIdeal Cert.KernelIdeal.Gen Cert.KernelIdeal.Value Cert.Proof.Block Cert.Proof.Fold
  Cert.Proof.Hard Cert.Proof.Ranks Cert.Proof.Consts Cert.Proof.Point

/-- The kernel's named constant is a hundred sevenths of the reciprocal of the logarithm of two. -/
theorem scale_eq : Named.named (F := Ideal) κ "scale" (φ := .f32) 0x41A4E123#32 = (((Real.log 2)⁻¹ * (100 / 7) : ℝ) : EReal) :=
  IdealRules.named_const.ideal_named_scalar _ _ _ _ rfl

theorem pay4_apply (x0 : Vec Ideal S256x512 .f32) (T : Vec Ideal S4096x512 .bf16) (q : Fin 256) (c : Fin 4096) :
    k0_pay4 (F := Ideal) x0 T (ix2 q c) = Ideal.exp2 (∑ d : Fin 512, x0 (ix2 q d) * Named.named (F := Ideal) κ "scale" (φ := .f32) 0x41A4E123#32 * T (ix2 c d)) := by
  pointwise [k0_pay4]
  rfl

/-- Two to the scaled product is the exponential of the score. -/
theorem exp2_score (v t : Fin 4096 → Fin 512 → ℝ) (r c : Fin 4096) :
    Ideal.exp2 (∑ d, ((v r d : ℝ) : EReal) * (((Real.log 2)⁻¹ * (100 / 7) : ℝ) : EReal) * ((t c d : ℝ) : EReal)) = ((Real.exp (score v t r c) : ℝ) : EReal) := by
  simp only [← EReal.coe_mul, ← coe_sum]
  rw [Ideal.exp2_coe]
  refine congrArg Real.toEReal ?_
  show (2 : ℝ) ^ (∑ d, v r d * ((Real.log 2)⁻¹ * (100 / 7)) * t c d) = _
  rw [Real.rpow_def_of_pos (by norm_num)]
  refine congrArg Real.exp ?_
  have h2 : Real.log 2 ≠ 0 := (Real.log_pos (by norm_num)).ne'
  unfold score
  rw [Finset.sum_mul, Finset.mul_sum, Finset.sum_div]
  refine Finset.sum_congr rfl fun d _ => ?_
  field_simp

theorem coords_val (t : Fin cfg0.N) (h : t.val < 16) : (grid0.coords t 0).val = (⟨t.val, h⟩ : Fin 16).val := by
  show t.val / 1 % 16 = t.val
  omega

/-- The result's payload: the logarithms of the column sums and the lanes of the sum over the rows, over 8192. -/
theorem pay2_apply (S : Vec Ideal S1x4096 .f32) (X : Vec Ideal S1x128 .f32) (l : Fin 128) :
    k0_pay2 (F := Ideal) S X (ix2 0 l) = Ideal.div ((∑ k : Fin 4096, Ideal.log (S (ix2 0 k))) + ∑ l : Fin 128, X (ix2 0 l)) (Ideal.ofBits .f32 0x46000000#32) := by
  pointwise [k0_pay2]
  rw [Fin.sum_univ_one, Fin.sum_univ_one]

/-- The terms of one block in a column; none past the last block. -/
def blockCol (s : Fin 4096 → Fin 4096 → ℝ) (p : Fin 4096 → Fin 4 → Fin 4096) (k : Fin 4096) (n : ℕ) : ℝ :=
  if h : n < 16 then ∑ q, term s p (row ⟨n, h⟩ q) k else 0

/-- What one block's rows add to the loss; nothing past the last block. -/
def blockRows (s : Fin 4096 → Fin 4096 → ℝ) (p : Fin 4096 → Fin 4 → Fin 4096) (n : ℕ) : ℝ :=
  if h : n < 16 then ∑ q, (Real.log (∑ c, term s p (row ⟨n, h⟩ q) c) - 2 * s (row ⟨n, h⟩ q) (row ⟨n, h⟩ q)) else 0

section Result

variable (m : (ℓ : Loc nD τ sig) → Buf (Elt Ideal) ℓ) (c : Dev nD)

/-- A grid point's block of the first argument is its 256 rows. -/
theorem rows_apply (t : Fin cfg0.N) (h : t.val < 16) (q : Fin 256) (d : Fin 512) :
    iblk m c 0 t (ix2 q d) = m ((c.tc : Thread nD τ).loc main_arg0) (ix2 (row ⟨t.val, h⟩ q) d) := by
  have e : (grid0.coords t 0).val = t.val := coords_val t h
  have hi : win0_0.index t = ![t.val, 0] := by
    show cc0_transform_0 (grid0.coords t) = _
    unfold cc0_transform_0
    rw [e]
    show ![(BitVec.ofNat 32 t.val).toNat, 0] = _
    rw [BitVec.toNat_ofNat, Nat.mod_eq_of_lt (by omega)]
  refine congrArg (m ((c.tc : Thread nD τ).loc main_arg0)) (ix2_ext ?_ ?_)
  · blk_simp
    rw [hi]
    show t.val * 256 + q.val = 256 * t.val + q.val
    omega
  · blk_simp
    rw [hi]
    show 0 * 512 + d.val = d.val
    omega

/-- The table's block is the whole second argument. -/
theorem table_apply (t : Fin cfg0.N) (r : Fin 4096) (d : Fin 512) :
    iblk m c 1 t (ix2 r d) = m ((c.tc : Thread nD τ).loc main_arg1) (ix2 r d) := by
  have hi : win0_1.index t = ![0, 0] := rfl
  refine congrArg (m ((c.tc : Thread nD τ).loc main_arg1)) (ix2_ext ?_ ?_)
  · blk_simp
    rw [hi]
    show 0 * 4096 + r.val = r.val
    omega
  · blk_simp
    rw [hi]
    show 0 * 512 + d.val = d.val
    omega

variable (v t : Fin 4096 → Fin 512 → ℝ)
  (hv : ∀ r d, m ((c.tc : Thread nD τ).loc main_arg0) (ix2 r d) = ((v r d : ℝ) : EReal))
  (ht : ∀ r d, m ((c.tc : Thread nD τ).loc main_arg1) (ix2 r d) = ((t r d : ℝ) : EReal))
include hv ht

/-- The block of a grid point holds the exponentials of its rows' scores. -/
theorem expo_apply (n : Fin cfg0.N) (h : n.val < 16) (q : Fin 256) (k : Fin 4096) :
    expo m c n (ix2 q k) = ((Real.exp (score v t (row ⟨n.val, h⟩ q) k) : ℝ) : EReal) := by
  unfold expo
  rw [pay4_apply, scale_eq, ← exp2_score]
  refine congrArg Ideal.exp2 (Finset.sum_congr rfl fun d _ => ?_)
  have e : ∀ X : Vec Ideal S4096x512 .f32, k0_pay3 (F := Ideal) X (ix2 k d) = X (ix2 k d) := by
    intro X; pointwise [k0_pay3]
  rw [rows_apply m c n h, hv, e, table_apply, ht]

variable {p : Fin 4096 → Fin 4 → Fin 4096} (hh : Hard (score v t) p)
include hh

/-- The column sums with the block's diagonal added: the block's terms in the column are added. -/
theorem addDiag_cols (n : Fin cfg0.N) (h : n.val < 16) (k : Fin 4096) (X : Vec Ideal S1x4096 .f32) (x : ℝ)
    (hX : X (ix2 0 k) = ((x + ∑ q, offTerm (score v t) p (row ⟨n.val, h⟩ q) k : ℝ) : EReal)) :
    addDiag (grid0.coords n) (expo m c n) X (ix2 0 k) = ((x + blockCol (score v t) p k n.val : ℝ) : EReal) := by
  rw [addDiag_apply (grid0.coords n) ⟨n.val, h⟩ (coords_val n h) (score v t) (expo m c n) (expo_apply m c v t hv ht n h) X k, hX, ← EReal.coe_add,
    add_assoc, ← Finset.sum_add_distrib]
  unfold blockCol
  rw [dif_pos h]
  refine congrArg Real.toEReal (congrArg (x + ·) (Finset.sum_congr rfl fun q _ => (term_eq _ _).symm))

/-- The column sums after point `n`. -/
theorem colsTo_apply (k : Fin 4096) : ∀ (n : ℕ) (h : n < cfg0.N),
    colsTo m c n h (ix2 0 k) = ((∑ j ∈ Finset.range (n + 1), blockCol (score v t) p k j : ℝ) : EReal)
  | 0, h => by
    have h16 : 0 < 16 := by decide
    rw [Finset.sum_range_succ, Finset.sum_range_zero]
    refine addDiag_cols m c v t hv ht hh ⟨0, h⟩ h16 k _ 0 ?_
    rw [zero_add]
    exact cols_apply (grid0.coords ⟨0, h⟩) ⟨0, h16⟩ (coords_val _ h16) _ _ (expo_apply m c v t hv ht ⟨0, h⟩ h16) hh k
  | n + 1, h => by
    have h16 : n + 1 < 16 := lt_of_lt_of_eq h N_0
    rw [Finset.sum_range_succ]
    refine addDiag_cols m c v t hv ht hh ⟨n + 1, h⟩ h16 k _ _ ?_
    have ih := colsTo_apply k n (Nat.lt_of_succ_lt h)
    have hc := cols_apply (grid0.coords ⟨n + 1, h⟩) ⟨n + 1, h16⟩ (coords_val _ h16) _ _ (expo_apply m c v t hv ht ⟨n + 1, h⟩ h16) hh k
    show colsTo m c n (Nat.lt_of_succ_lt h) (ix2 0 k) + cols (grid0.coords ⟨n + 1, h⟩) (expo m c ⟨n + 1, h⟩) (ix2 0 k) = _
    rw [ih, hc, ← EReal.coe_add]

/-- The sum over the rows after point `n`, a hundred-and-twenty-eighth in each lane. -/
theorem partTo_apply (l : Fin 128) : ∀ (n : ℕ) (h : n < cfg0.N),
    partTo m c n h (ix2 0 l) = ((∑ j ∈ Finset.range (n + 1), blockRows (score v t) p j / 128 : ℝ) : EReal)
  | 0, h => by
    have h16 : 0 < 16 := by decide
    rw [Finset.sum_range_succ, Finset.sum_range_zero, zero_add]
    unfold blockRows
    rw [dif_pos h16]
    exact part_apply (grid0.coords ⟨0, h⟩) ⟨0, h16⟩ (coords_val _ h16) _ _ (expo_apply m c v t hv ht ⟨0, h⟩ h16) hh l
  | n + 1, h => by
    have h16 : n + 1 < 16 := lt_of_lt_of_eq h N_0
    rw [Finset.sum_range_succ]
    have ih := partTo_apply l n (Nat.lt_of_succ_lt h)
    have hc := part_apply (grid0.coords ⟨n + 1, h⟩) ⟨n + 1, h16⟩ (coords_val _ h16) _ _ (expo_apply m c v t hv ht ⟨n + 1, h⟩ h16) hh l
    show partTo m c n (Nat.lt_of_succ_lt h) (ix2 0 l) + part (grid0.coords ⟨n + 1, h⟩) (expo m c ⟨n + 1, h⟩) (ix2 0 l) = _
    rw [ih, hc, ← EReal.coe_add]
    refine congrArg Real.toEReal (congrArg (_ + ·) ?_)
    unfold blockRows
    rw [dif_pos h16]

/-- The kernel's result: the loss, in every lane. -/
theorem kernel_eq : G2 m c = fun _ => ((loss (score v t) p : ℝ) : EReal) := by
  have h15 : 15 < cfg0.N := lt_of_lt_of_eq (by decide) N_0.symm
  rw [result_eq]
  funext j
  obtain ⟨l, rfl⟩ : ∃ l : Fin 128, j = ix2 0 l := by
    refine ⟨j 1, ix2_ext ?_ rfl⟩
    have : (j 0).val < 1 := (j 0).isLt
    show (j 0).val = 0
    omega
  rw [pay2_apply]
  have hcol : ∀ k, colsTo m c 15 h15 (ix2 0 k) = ((∑ r, term (score v t) p r k : ℝ) : EReal) := by
    intro k
    rw [colsTo_apply m c v t hv ht hh k 15 h15, Finset.sum_range, sum_rows]
    refine congrArg Real.toEReal (Finset.sum_congr rfl fun g _ => ?_)
    unfold blockCol
    rw [dif_pos g.isLt]
  have hlog : ∀ k, Ideal.log (colsTo m c 15 h15 (ix2 0 k)) = ((Real.log (∑ r, term (score v t) p r k) : ℝ) : EReal) := by
    intro k
    rw [hcol, Ideal.log_coe, if_neg (not_le.mpr (Finset.sum_pos (fun r _ => term_pos r _) ⟨0, Finset.mem_univ _⟩))]
  rw [Finset.sum_congr rfl fun k _ => hlog k, Finset.sum_congr rfl fun l _ => partTo_apply m c v t hv ht hh l 15 h15,
    ← coe_sum, ← coe_sum, ← EReal.coe_add, ofBits_8192, Ideal.div_coe (by norm_num), ← EReal.coe_mul, mul_one_div]
  refine congrArg Real.toEReal ?_
  unfold loss
  rw [sum_rows (fun r => Real.log (∑ c, term (score v t) p r c) - 2 * score v t r r)]
  have hrows : ∑ j ∈ Finset.range 16, blockRows (score v t) p j / 128
      = (∑ g, ∑ q, (Real.log (∑ c, term (score v t) p (row g q) c) - 2 * score v t (row g q) (row g q))) / 128 := by
    rw [← Finset.sum_div, Finset.sum_range]
    refine congrArg (· / 128) (Finset.sum_congr rfl fun g _ => ?_)
    unfold blockRows
    rw [dif_pos g.isLt]
  rw [Finset.sum_const, Finset.card_univ, Fintype.card_fin, hrows, nsmul_eq_mul]
  norm_num
  rw [mul_div_cancel₀ _ (by norm_num)]

end Result

end Cert.Proof.Total

end
-- ==== Proof.Clear.lean ====
/- When the first five ranks of every row fall strictly, the fourth lies above the filled value and no three of the first four
   lie in one lane, the first four ranks are the hard negatives of the scores. -/
module

public import proofs.«01_k».proof.Proof.Ranks

@[expose] public section

noncomputable section

namespace Cert.Proof.Clear

open Cert.Proof.Hard Cert.Proof.Ranks

/-- The four columns of each row with the greatest filled scores. -/
abbrev hardest (s : Fin 4096 → Fin 4096 → ℝ) (r : Fin 4096) (k : Fin 4) : Fin 4096 := pick s (K := 4) (by decide) r k

variable {s : Fin 4096 → Fin 4096 → ℝ}

theorem hard_of (hfall : ∀ (r : Fin 4096) (i : Fin 4), filled s r (pick s (K := 5) (by decide) r i.succ) < filled s r (pick s (K := 5) (by decide) r i.castSucc))
    (hfour : ∀ r, -1000000000 < filled s r (hardest s r 3))
    (hlanes : ∀ r i j k, i ≠ j → j ≠ k → i ≠ k → (hardest s r i).val % 128 = (hardest s r j).val % 128 → (hardest s r j).val % 128 ≠ (hardest s r k).val % 128) :
    Hard s (hardest s) := by
  have hlow : ∀ r k, -1000000000 < filled s r (hardest s r k) := fun r k =>
    (hfour r).trans_le (rank_antitone s r (Fin.mk_le_mk.mpr (by show k.val ≤ 3; have := k.isLt; omega)))
  have hoff : ∀ r k, hardest s r k ≠ r := fun r k h => by
    have := hlow r k
    unfold filled at this
    rw [if_pos h] at this
    exact lt_irrefl _ this
  have hs : ∀ r k, filled s r (hardest s r k) = s r (hardest s r k) := fun r k => by unfold filled; rw [if_neg (hoff r k)]
  refine ⟨fun r i j hij => ?_, hoff, fun r c hc hne => ?_, hlanes⟩
  · rw [← hs, ← hs]
    refine lt_of_le_of_lt (rank_antitone s r (i := ⟨i.val + 1, by omega⟩) (Fin.mk_le_mk.mpr ?_)) (hfall r i)
    show i.val + 1 ≤ j.val
    exact hij
  · obtain ⟨n, rfl⟩ := rank_surjective s r c
    have hn : 4 ≤ n.val := by
      by_contra hlt
      exact hne ⟨n.val, by omega⟩ rfl
    have := lt_of_le_of_lt (rank_antitone s r (i := ⟨4, by omega⟩) (j := n) (Fin.mk_le_mk.mpr hn)) (hfall r 3)
    rw [← hs]
    refine lt_of_eq_of_lt ?_ this
    unfold filled
    rw [if_neg hc]

end Cert.Proof.Clear
-- ==== Proof.Pre.lean ====
/- What the precondition says of the arguments: their entries are real, and the scores have four hard negatives in every row. -/
module

public import proofs.«01_k».proof.Pre_hard_negatives_clear
public import proofs.«01_k».proof.Proof.Clear

@[expose] public section

noncomputable section

namespace Cert.Proof.Pre

open Idealize.ShloMosaic Cert.Pre_hard_negatives_clear Cert.Proof.Hard Cert.Proof.Ranks Cert.Proof.Clear Cert.Proof.Consts

/-- The side conditions of the precondition's operations. -/
theorem facts : Cert.Pre_hard_negatives_clear.Facts where
  transposes_S4096x512_S512x4096_1_0 := by decide
  bcast_S_S4096x4096 := by decide
  sliceFits_S4096x4096_S4096x5 := by decide
  slices_S4096x5_S4096x1_0_0 := by decide
  shapeCasts_S4096x1_S4096 := by decide
  bcast_S_S4096 := by decide
  slices_S4096x5_S4096x1_0_1 := by decide
  slices_S4096x5_S4096x1_0_2 := by decide
  slices_S4096x5_S4096x1_0_3 := by decide
  bcast_S_S4096x512 := by decide
  slices_S4096x5_S4096x4_0_0 := by decide
  slices_S4096x5_S4096x4_0_1 := by decide
  dot_S4096x512_S512x4096_S4096x4096_1_0_0_1_n_n_wf := by decide

variable [Cert.Pre_hard_negatives_clear.Facts]
open Cert.Pre_hard_negatives_clear.Facts

/-- The host's scores. -/
def scores (a b : FVec Ideal S4096x512 .f32) : FVec Ideal S4096x4096 .f32 :=
  Host.divf (mulf (Host.dotGeneral dot_S4096x512_S512x4096_S4096x4096_1_0_0_1_n_n none a (transpose S512x4096 [1, 0] b transposes_S4096x512_S512x4096_1_0))
    (broadcastInDim S4096x4096 ![] bcast_S_S4096x4096 (constant S_ .f32 0x42C80000#32))) (broadcastInDim S4096x4096 ![] bcast_S_S4096x4096 (constant S_ .f32 0x40E00000#32))

/-- The scores with the diagonal filled. -/
def fill (a b : FVec Ideal S4096x512 .f32) : FVec Ideal S4096x4096 .f32 :=
  select (cmpi .eq (addi (iotaInDim S4096x4096 32 0) (broadcastInDim S4096x4096 ![] bcast_S_S4096x4096 (constantI S_ 32 0#32))) (iotaInDim S4096x4096 32 1))
    (broadcastInDim S4096x4096 ![] bcast_S_S4096x4096 (id (constant S_ .f32 0xCE6E6B28#32))) (scores a b)

/-- An argument's entries are below infinity in absolute value. -/
def finite (a : FVec Ideal S4096x512 .f32) : IVec S4096x512 1 :=
  cmpf .olt (Host.absf a) (broadcastInDim S4096x512 ![] bcast_S_S4096x512 (constant S_ .f32 0x7F800000#32))

/-- The five greatest fall strictly. -/
def fall (V : FVec Ideal S4096x5 .f32) : IVec S4096x4 1 :=
  cmpf .ogt (extractStridedSlice S4096x4 ![0, 0] V slices_S4096x5_S4096x4_0_0) (extractStridedSlice S4096x4 ![0, 1] V slices_S4096x5_S4096x4_0_1)

/-- The fourth is above the filled value. -/
def four (V : FVec Ideal S4096x5 .f32) : IVec S4096 1 :=
  cmpf .ogt (shapeCast S4096 (extractStridedSlice S4096x1 ![0, 3] V slices_S4096x5_S4096x1_0_3) shapeCasts_S4096x1_S4096)
    (broadcastInDim S4096 ![] bcast_S_S4096 (constant S_ .f32 0xCE6E6B28#32))

/-- The lanes of column `k` of the positions. -/
def laneOf (k : ℕ) (h : S4096x5.Slices ![0, k] S4096x1) (I : IVec S4096x5 32) : IVec S4096 32 :=
  andi (shapeCast S4096 (extractStridedSlice S4096x1 ![0, k] I h) shapeCasts_S4096x1_S4096) (broadcastInDim S4096 ![] bcast_S_S4096 (constantI S_ 32 127#32))

/-- No three of four lanes are the same. -/
def apart (l₀ l₁ l₂ l₃ : IVec S4096 32) : IVec S4096 1 :=
  andi (andi (andi (ori (cmpi .ne l₀ l₁) (cmpi .ne l₁ l₂)) (ori (cmpi .ne l₀ l₁) (cmpi .ne l₁ l₃))) (ori (cmpi .ne l₀ l₂) (cmpi .ne l₂ l₃)))
    (ori (cmpi .ne l₁ l₂) (cmpi .ne l₂ l₃))

/-- The five greatest of every row, and their positions. -/
def top (a b : FVec Ideal S4096x512 .f32) : FVec Ideal S4096x5 .f32 × IVec S4096x5 32 :=
  Host.topK S4096x5 1 (FloatOps.cmpfTotal .gt) (fill a b) sliceFits_S4096x4096_S4096x5

theorem fn_eq (a b : FVec Ideal S4096x512 .f32) :
    Cert.Pre_hard_negatives_clear.fn (F := Ideal) a b = (finite a, finite b, fall (top a b).1, four (top a b).1,
      apart (laneOf 0 slices_S4096x5_S4096x1_0_0 (top a b).2) (laneOf 1 slices_S4096x5_S4096x1_0_1 (top a b).2)
        (laneOf 2 slices_S4096x5_S4096x1_0_2 (top a b).2) (laneOf 3 slices_S4096x5_S4096x1_0_3 (top a b).2)) := rfl

/-- A proposition whose truth value is one holds. -/
theorem of_one {p : Prop} [Decidable p] (h : BitVec.ofBool (decide p) = 1#1) : p := by
  by_contra hp
  rw [decide_eq_false hp] at h
  exact absurd h (by decide)

theorem and_one {a b : BitVec 1} (h : IntOp.andi a b = 1#1) : a = 1#1 ∧ b = 1#1 := by
  revert a b; decide

theorem or_one {a b : BitVec 1} (h : IntOp.ori a b = 1#1) : a = 1#1 ∨ b = 1#1 := by
  revert a b; decide

theorem ne_one {x y : BitVec 32} (h : IntOp.cmpi CmpIPredicate.ne x y = 1#1) : x ≠ y := by
  rintro rfl
  simp [IntOp.cmpi] at h

/-- An argument whose entries are all below infinity in absolute value has real entries. -/
theorem finite_apply (a : FVec Ideal S4096x512 .f32) (h : finite a = fun _ => 1#1) (r : Fin 4096) (d : Fin 512) :
    a (ix2 r d) = ((a (ix2 r d)).toReal : EReal) := by
  have e := congrFun h (ix2 r d)
  pointwise [finite] at e
  have hlt : max (a (ix2 r d)) (-(a (ix2 r d))) < Ideal.ofBits .f32 0x7F800000#32 := of_one e
  rw [ofBits_highest] at hlt
  have h1 : a (ix2 r d) ≠ ⊤ := ((le_max_left _ _).trans_lt hlt).ne
  have h2 : a (ix2 r d) ≠ ⊥ := fun hb => by
    have := (le_max_right _ _).trans_lt hlt
    rw [hb] at this
    exact lt_irrefl _ this
  exact (EReal.coe_toReal h1 h2).symm

theorem fill_apply (a b : FVec Ideal S4096x512 .f32) (v t : Fin 4096 → Fin 512 → ℝ) (ha : ∀ r d, a (ix2 r d) = ((v r d : ℝ) : EReal))
    (hb : ∀ r d, b (ix2 r d) = ((t r d : ℝ) : EReal)) (r c : Fin 4096) : fill a b (ix2 r c) = ((filled (score v t) r c : ℝ) : EReal) := by
  have e : fill a b (ix2 r c) = if c = r then Ideal.ofBits .f32 0xCE6E6B28#32
      else Ideal.div ((∑ d, a (ix2 r d) * b (ix2 c d)) * Ideal.ofBits .f32 0x42C80000#32) (Ideal.ofBits .f32 0x40E00000#32) := by
    rw [← eye_apply]
    pointwise [fill, scores]
    rfl
  rw [e, ofBits_fill]
  simp only [ha, hb]
  rw [score_eq]
  unfold filled
  split_ifs <;> rfl

theorem fall_apply (V : FVec Ideal S4096x5 .f32) (h : fall V = fun _ => 1#1) (r : Fin 4096) (i : Fin 4) : V (ix2 r i.succ) < V (ix2 r i.castSucc) := by
  have e := congrFun h (ix2 r i)
  pointwise [fall] at e
  have e' := of_one e
  have hi : (⟨1 + i.val, by omega⟩ : Fin 5) = i.succ := Fin.ext (Nat.add_comm _ _)
  rw [hi] at e'
  exact e'

theorem four_apply (V : FVec Ideal S4096x5 .f32) (h : four V = fun _ => 1#1) (r : Fin 4096) : ((-1000000000 : ℝ) : EReal) < V (ix2 r 3) := by
  have e := congrFun h (ix1 r)
  pointwise [four] at e
  rw [← ofBits_fill]
  exact of_one e

theorem laneOf_apply (k : ℕ) (hk : k < 5) (h : S4096x5.Slices ![0, k] S4096x1) (I : IVec S4096x5 32) (r : Fin 4096) :
    laneOf k h I (ix1 r) = IntOp.andi (I (ix2 r ⟨k, hk⟩)) 127#32 := by
  pointwise [laneOf]

theorem apart_apply (l₀ l₁ l₂ l₃ : IVec S4096 32) (h : apart l₀ l₁ l₂ l₃ = fun _ => 1#1) (r : Fin 4096) :
    (l₀ (ix1 r) ≠ l₁ (ix1 r) ∨ l₁ (ix1 r) ≠ l₂ (ix1 r)) ∧ (l₀ (ix1 r) ≠ l₁ (ix1 r) ∨ l₁ (ix1 r) ≠ l₃ (ix1 r))
      ∧ (l₀ (ix1 r) ≠ l₂ (ix1 r) ∨ l₂ (ix1 r) ≠ l₃ (ix1 r)) ∧ (l₁ (ix1 r) ≠ l₂ (ix1 r) ∨ l₂ (ix1 r) ≠ l₃ (ix1 r)) := by
  have e := congrFun h (ix1 r)
  pointwise [apart] at e
  obtain ⟨e, h4⟩ := and_one e
  obtain ⟨e, h3⟩ := and_one e
  obtain ⟨h1, h2⟩ := and_one e
  exact ⟨(or_one h1).imp ne_one ne_one, (or_one h2).imp ne_one ne_one, (or_one h3).imp ne_one ne_one, (or_one h4).imp ne_one ne_one⟩

/-- Of four columns no three lie in one lane when the four triples do not. -/
theorem lanes_apart (L : Fin 4 → ℕ) (h1 : L 0 ≠ L 1 ∨ L 1 ≠ L 2) (h2 : L 0 ≠ L 1 ∨ L 1 ≠ L 3) (h3 : L 0 ≠ L 2 ∨ L 2 ≠ L 3) (h4 : L 1 ≠ L 2 ∨ L 2 ≠ L 3)
    (i j k : Fin 4) (hij : i ≠ j) (hjk : j ≠ k) (hik : i ≠ k) (e : L i = L j) : L j ≠ L k := by
  have all : ∀ i : Fin 4, i = 0 ∨ i = 1 ∨ i = 2 ∨ i = 3 := by decide
  rcases all i with rfl | rfl | rfl | rfl <;> rcases all j with rfl | rfl | rfl | rfl <;> rcases all k with rfl | rfl | rfl | rfl <;>
    first
    | exact absurd rfl hij
    | exact absurd rfl hjk
    | exact absurd rfl hik
    | omega

/-- The lane of a column's word. -/
theorem lane_word (n : Fin 4096) : (IntOp.andi (BitVec.ofNat 32 n.val) 127#32).toNat = n.val % 128 := by
  show (BitVec.ofNat 32 n.val &&& 127#32).toNat = _
  rw [BitVec.toNat_and, BitVec.toNat_ofNat, Nat.mod_eq_of_lt (by have := n.isLt; omega)]
  exact Nat.and_two_pow_sub_one_eq_mod n.val 7

theorem lane_ne {m n : Fin 4096} (h : IntOp.andi (BitVec.ofNat 32 m.val) 127#32 ≠ IntOp.andi (BitVec.ofNat 32 n.val) 127#32) : m.val % 128 ≠ n.val % 128 := by
  intro e
  rw [← lane_word, ← lane_word] at e
  exact h (BitVec.toNat_inj.mp e)

/-- Under the precondition the scores have their hard negatives in every row. -/
theorem hard (a b : FVec Ideal S4096x512 .f32) (v t : Fin 4096 → Fin 512 → ℝ) (ha : ∀ r d, a (ix2 r d) = ((v r d : ℝ) : EReal))
    (hb : ∀ r d, b (ix2 r d) = ((t r d : ℝ) : EReal))
    (hfall : fall (top a b).1 = fun _ => 1#1) (hfour : four (top a b).1 = fun _ => 1#1)
    (hapart : apart (laneOf 0 slices_S4096x5_S4096x1_0_0 (top a b).2) (laneOf 1 slices_S4096x5_S4096x1_0_1 (top a b).2)
        (laneOf 2 slices_S4096x5_S4096x1_0_2 (top a b).2) (laneOf 3 slices_S4096x5_S4096x1_0_3 (top a b).2) = fun _ => 1#1) :
    Hard (score v t) (hardest (score v t)) := by
  have hV : ∀ r k, (top a b).1 (ix2 r k) = ((filled (score v t) r (pick (score v t) (K := 5) (by decide) r k) : ℝ) : EReal) := fun r k =>
    topK_values (score v t) (fill a b) (fill_apply a b v t ha hb) (by decide) _ r k
  have hI : ∀ r k, (top a b).2 (ix2 r k) = BitVec.ofNat 32 (pick (score v t) (K := 5) (by decide) r k).val := fun r k =>
    topK_indices (score v t) (fill a b) (fill_apply a b v t ha hb) (by decide) _ r k
  refine hard_of (fun r i => ?_) (fun r => ?_) (fun r => ?_)
  · have := fall_apply _ hfall r i
    rw [hV, hV] at this
    exact EReal.coe_lt_coe_iff.mp this
  · have := four_apply _ hfour r
    rw [hV] at this
    exact EReal.coe_lt_coe_iff.mp this
  · obtain ⟨h1, h2, h3, h4⟩ := apart_apply _ _ _ _ hapart r
    rw [laneOf_apply 0 (by decide), laneOf_apply 1 (by decide), laneOf_apply 2 (by decide), hI, hI, hI] at h1
    rw [laneOf_apply 0 (by decide), laneOf_apply 1 (by decide), laneOf_apply 3 (by decide), hI, hI, hI] at h2
    rw [laneOf_apply 0 (by decide), laneOf_apply 2 (by decide), laneOf_apply 3 (by decide), hI, hI, hI] at h3
    rw [laneOf_apply 1 (by decide), laneOf_apply 2 (by decide), laneOf_apply 3 (by decide), hI, hI, hI] at h4
    exact lanes_apart (fun k => (hardest (score v t) r k).val % 128) (h1.imp lane_ne lane_ne) (h2.imp lane_ne lane_ne)
      (h3.imp lane_ne lane_ne) (h4.imp lane_ne lane_ne)

end Cert.Proof.Pre
-- ==== Proof.Reference.lean ====
/- The reference's parts: its scores, the positions it picks, the weights, the weighted exponentials, and one direction's mean
   loss; and that its result is made of them. -/
module

public import proofs.«01_k».proof.Proof.Gen.ReferenceIdeal.Run
public import proofs.«01_k».proof.Proof.Clear
public import Idealize.ShloMosaic.Lib.Routing.OpsPair
public import Idealize.ShloMosaic.Lib.Routing.OpsSet
public import Idealize.ShloMosaic.Lib.Pointwise.IndexBridge

@[expose] public section

noncomputable section

namespace Cert.Proof.Reference

open Idealize.ShloMosaic Idealize.ShloMosaic.TcCoe Cert.ReferenceIdeal Cert.ReferenceIdeal.Gen Cert.Proof.Hard Cert.Proof.Ranks Cert.Proof.Clear Cert.Proof.Consts

/-- The reference's scores. -/
def scores (a b : FVec Ideal S4096x512 .f32) : FVec Ideal S4096x4096 .f32 :=
  Host.divf (mulf (Host.dotGeneral dot_S4096x512_S512x4096_S4096x4096_1_0_0_1_n_n none a (transpose S512x4096 [1, 0] b transposes_S4096x512_S512x4096_1_0))
    (broadcastInDim S4096x4096 ![] bcast_S_S4096x4096 (constant S_ .f32 0x42C80000#32))) (broadcastInDim S4096x4096 ![] bcast_S_S4096x4096 (constant S_ .f32 0x40E00000#32))

/-- The matrix `X` with its diagonal replaced by a constant. -/
def diag (w : BitVec 32) (X : FVec Ideal S4096x4096 .f32) : FVec Ideal S4096x4096 .f32 :=
  select (cmpi .eq (addi (iotaInDim S4096x4096 32 0) (broadcastInDim S4096x4096 ![] bcast_S_S4096x4096 (constantI S_ 32 0#32))) (iotaInDim S4096x4096 32 1))
    (broadcastInDim S4096x4096 ![] bcast_S_S4096x4096 (id (constant S_ .f32 w))) X

/-- The positions of the four greatest of every row off the diagonal. -/
def picked (a b : FVec Ideal S4096x512 .f32) : IVec S4096x4 32 :=
  (Host.topK S4096x4 1 (FloatOps.cmpfTotal .gt) (diag 0xCE6E6B28#32 (scores a b)) sliceFits_S4096x4096_S4096x4).2

/-- A negative word of a table wrapped by 4096. -/
def wrapped (I : IVec S4096x4 32) : IVec S4096x4 32 :=
  select (cmpi .slt I (broadcastInDim S4096x4 ![] bcast_S_S4096x4 (constantI S_ 32 0#32))) (addi I (broadcastInDim S4096x4 ![] bcast_S_S4096x4 (constantI S_ 32 4096#32))) I

/-- The rows' numbers, four times each. -/
def rows : IVec S4096x4 32 :=
  broadcastInDim S4096x4 ![0, 1] bcast_S4096x1_S4096x4_0_1 (broadcastInDim S4096x1 ![0] bcast_S4096_S4096x1_0 (iotaInDim S4096 32 0))

/-- The places the weights are written: a row and one of its picked columns. -/
def places (I : IVec S4096x4 32) : IVec S4096x4x2 32 :=
  concatenate S4096x4x2 2 [⟨S4096x4x1, broadcastInDim S4096x4x1 ![0, 1] bcast_S4096x4_S4096x4x1_0_1 (wrapped rows)⟩,
    ⟨S4096x4x1, broadcastInDim S4096x4x1 ![0, 1] bcast_S4096x4_S4096x4x1_0_1 (wrapped I)⟩] concatenates_S4096x4x1_S4096x4x1_S4096x4x2_d2

/-- Ones, with twos written at the picked places. -/
def twos (I : IVec S4096x4 32) : FVec Ideal S4096x4096 .f32 :=
  Host.scatter scatter_S4096x4096_S4096x4x2_S4096x4_n_01_01_2 (fun _ b => b) (broadcastInDim S4096x4096 ![] bcast_S_S4096x4096 (constant S_ .f32 0x3F800000#32))
    (places I) (broadcastInDim S4096x4 ![] bcast_S_S4096x4 (constant S_ .f32 0x40000000#32))

/-- The weights. -/
def weights (I : IVec S4096x4 32) : FVec Ideal S4096x4096 .f32 := diag 0x3F800000#32 (twos I)

/-- A matrix on its side. -/
def flip (X : FVec Ideal S4096x4096 .f32) : FVec Ideal S4096x4096 .f32 := transpose S4096x4096 [1, 0] X transposes_S4096x4096_S4096x4096_1_0

/-- The row numbers as a column of words. -/
def column : IVec S4096x1 32 :=
  broadcastInDim S4096x1 ![0] bcast_S4096_S4096x1_0 (select (cmpi .slt (iotaInDim S4096 32 0) (broadcastInDim S4096 ![] bcast_S_S4096 (constantI S_ 32 0#32)))
    (addi (iotaInDim S4096 32 0) (broadcastInDim S4096 ![] bcast_S_S4096 (constantI S_ 32 4096#32))) (iotaInDim S4096 32 0))

/-- The diagonal's places. -/
def labels : IVec S4096x2 32 := concatenate S4096x2 1 [⟨S4096x1, column⟩, ⟨S4096x1, column⟩] concatenates_S4096x1_S4096x1_S4096x2_d1

/-- The logarithms of a matrix's entries over their rows' sums. -/
def logs (E : FVec Ideal S4096x4096 .f32) : FVec Ideal S4096x4096 .f32 :=
  Host.log (Host.divf E (broadcastInDim S4096x4096 ![0, 1] bcast_S4096x1_S4096x4096_0_1 (broadcastInDim S4096x1 ![0] bcast_S4096_S4096x1_0
    (Host.reduceAdd E (constant S_ .f32 0x00000000#32) reducesTo_S4096x4096_S4096_d1 h_S_))))

/-- One direction's loss: minus the mean of the diagonal. -/
def meanLoss (L : FVec Ideal S4096x4096 .f32) : FVec Ideal S_ .f32 :=
  Host.negf (Host.divf (Host.reduceAdd (Host.gather gather_S4096x4096_S4096x2_S4096_n_01_n_n_01_1_11 L labels)
    (constant S_ .f32 0x00000000#32) reducesTo_S4096_S_d0 h_S_) (constant S_ .f32 0x45800000#32))

/-- The weighted exponentials. -/
def terms (S W : FVec Ideal S4096x4096 .f32) : FVec Ideal S4096x4096 .f32 := Host.exp (mulf S W)

/-- The reference's result. -/
def result (S W : FVec Ideal S4096x4096 .f32) : FVec Ideal S1x128 .f32 :=
  broadcastInDim S1x128 ![] bcast_S_S1x128 (Host.divf (addf (meanLoss (logs (terms S W))) (meanLoss (logs (terms (flip S) (flip W))))) (constant S_ .f32 0x40000000#32))

theorem result_eq (m : (ℓ : Loc nD τ sig) → Buf (Elt Ideal) ℓ) (c : Dev nD) :
    Cert.ReferenceIdeal.Value.res_main_v85 (F := Ideal) m c
      = result (scores (m ((c.tc : Thread nD τ).loc main_arg0)) (m ((c.tc : Thread nD τ).loc main_arg1)))
          (weights (picked (m ((c.tc : Thread nD τ).loc main_arg0)) (m ((c.tc : Thread nD τ).loc main_arg1)))) := rfl

theorem diag_apply (w : BitVec 32) (X : FVec Ideal S4096x4096 .f32) (r c : Fin 4096) :
    diag w X (ix2 r c) = if c = r then Ideal.ofBits .f32 w else X (ix2 r c) := by
  rw [← eye_apply]
  pointwise [diag]
  rfl

theorem small (n : Fin 4096) : (BitVec.ofNat 32 n.val).toNat < 2 ^ (32 - 1) := by
  rw [BitVec.toNat_ofNat]
  have := n.isLt
  omega

theorem places_row (I : IVec S4096x4 32) (r : Fin 4096) (k : Fin 4) : places I (ix3 r k 0) = wrapped rows (ix2 r k) := by
  pointwise [places]

theorem places_column (I : IVec S4096x4 32) (r : Fin 4096) (k : Fin 4) : places I (ix3 r k 1) = wrapped I (ix2 r k) := by
  pointwise [places]

theorem rows_apply (r : Fin 4096) (k : Fin 4) : rows (ix2 r k) = BitVec.ofNat 32 r.val := by
  pointwise [rows]

theorem wrapped_apply (I : IVec S4096x4 32) (r : Fin 4096) (k : Fin 4) (n : Fin 4096) (h : I (ix2 r k) = BitVec.ofNat 32 n.val) :
    wrapped I (ix2 r k) = BitVec.ofNat 32 n.val := by
  pointwise [wrapped]
  rw [h]
  exact Routing.wrap_of_lt _ _ (small n)

theorem column_apply (r : Fin 4096) : column (ix2 r 0) = BitVec.ofNat 32 r.val := by
  pointwise [column]
  exact Routing.wrap_of_lt _ _ (small r)

theorem labels_apply (r : Fin 4096) (k : Fin 2) : labels (ix2 r k) = BitVec.ofNat 32 r.val := by
  refine Eq.trans ?_ (column_apply r)
  fin_cases k
  · pointwise [labels]
  · pointwise [labels]

theorem logs_apply (E : FVec Ideal S4096x4096 .f32) (r c : Fin 4096) : logs E (ix2 r c) = Ideal.log (Ideal.div (E (ix2 r c)) (∑ k, E (ix2 r k))) := by
  pointwise [logs]

theorem gather_apply (L : FVec Ideal S4096x4096 .f32) (r : Fin 4096) :
    Host.gather gather_S4096x4096_S4096x2_S4096_n_01_n_n_01_1_11 L labels (ix1 r) = L (ix2 r r) := by
  have hsi : ∀ q : Fin 2, gather_S4096x4096_S4096x2_S4096_n_01_n_n_01_1_11.siIdx (ix1 r) q = ix2 r q := by
    intro q
    funext b
    fin_cases b
    · rfl
    · rfl
  have hi : ∀ q : Fin 2, (labels (gather_S4096x4096_S4096x2_S4096_n_01_n_n_01_1_11.siIdx (ix1 r) q)).toInt.toNat = r.val := by
    intro q
    rw [hsi q, labels_apply, StableHlo.Predicate.toInt_ofNat_small _ (by have := r.isLt; omega), Int.toNat_natCast]
  have hmin : min r.val (4096 - 1) = r.val := by have := r.isLt; omega
  refine congrArg L ?_
  funext a
  apply Fin.ext
  fin_cases a
  · show min (labels (gather_S4096x4096_S4096x2_S4096_n_01_n_n_01_1_11.siIdx (ix1 r) (0 : Fin 2))).toInt.toNat (4096 - 1) + 0 + 0 = r.val
    rw [hi, hmin]
    rfl
  · show min (labels (gather_S4096x4096_S4096x2_S4096_n_01_n_n_01_1_11.siIdx (ix1 r) (1 : Fin 2))).toInt.toNat (4096 - 1) + 0 + 0 = r.val
    rw [hi, hmin]
    rfl

theorem meanLoss_apply (L : FVec Ideal S4096x4096 .f32) : meanLoss L ix0 = -Ideal.div (∑ r, L (ix2 r r)) (Ideal.ofBits .f32 0x45800000#32) := by
  pointwise [meanLoss]
  rw [Finset.sum_congr rfl fun r _ => gather_apply L r]

theorem terms_apply (S W : FVec Ideal S4096x4096 .f32) (r c : Fin 4096) : terms S W (ix2 r c) = Ideal.exp (S (ix2 r c) * W (ix2 r c)) := by
  pointwise [terms]

theorem flip_apply (X : FVec Ideal S4096x4096 .f32) (r c : Fin 4096) : flip X (ix2 r c) = X (ix2 c r) := by
  pointwise [flip]

theorem result_apply (S W : FVec Ideal S4096x4096 .f32) (l : Fin 128) :
    result S W (ix2 0 l) = Ideal.div (meanLoss (logs (terms S W)) ix0 + meanLoss (logs (terms (flip S) (flip W))) ix0) (Ideal.ofBits .f32 0x40000000#32) := by
  pointwise [result]

/-! ## The weights -/

section Weights

variable (I : IVec S4096x4 32) (p : Fin 4096 → Fin 4 → Fin 4096) (hI : ∀ r k, I (ix2 r k) = BitVec.ofNat 32 (p r k).val)
include hI

/-- A write lands at a row and one of its picked columns. -/
theorem lands (r' : Fin 4096) (k : Fin 4) (r c : Fin 4096) :
    scatter_S4096x4096_S4096x4x2_S4096x4_n_01_01_2.resultIdx? (ix2 r' k) (places I) = some (ix2 r c) ↔ r' = r ∧ p r' k = c := by
  have key := Routing.scatter_lands2 scatter_S4096x4096_S4096x4x2_S4096x4_n_01_01_2 rfl rfl rfl (places I) r' k r c
  have e0 : places I (ix3 r' k 0) = BitVec.ofNat 32 r'.val := by
    rw [places_row]; exact wrapped_apply rows r' k r' (rows_apply r' k)
  have e1 : places I (ix3 r' k 1) = BitVec.ofNat 32 (p r' k).val := by
    rw [places_column]; exact wrapped_apply I r' k _ (hI r' k)
  rw [ix2_eq_valueIdx, ix2_eq_valueIdx]
  refine key.trans ?_
  rw [← ix3_eq_valueIdx, ← ix3_eq_valueIdx, e0, e1, StableHlo.Predicate.toInt_ofNat_small _ (by have := r'.isLt; omega),
    StableHlo.Predicate.toInt_ofNat_small _ (by have := (p r' k).isLt; omega), Fin.ext_iff, Fin.ext_iff]
  omega

theorem twos_apply (r c : Fin 4096) : twos I (ix2 r c) = (((if ∃ k, c = p r k then 2 else 1 : ℝ)) : EReal) := by
  unfold twos
  split_ifs with h
  · obtain ⟨k, rfl⟩ := h
    refine (Routing.scatter_set_hit _ _ _ _ _ (Ideal.ofBits .f32 0x40000000#32) (fun j _ => rfl) (ix2 r k) ((lands I p hI r k r _).mpr ⟨rfl, rfl⟩)).trans ?_
    exact ofBits_2
  · refine (Routing.scatter_set_miss _ _ _ _ _ fun j hj => ?_).trans ?_
    · rw [eq_ix2 j] at hj
      obtain ⟨h1, h2⟩ := (lands I p hI _ _ r c).mp hj
      exact h ⟨j 1, by rw [← h2, h1]⟩
    · exact ofBits_1

theorem weights_apply (r c : Fin 4096) : weights I (ix2 r c) = ((weight p r c : ℝ) : EReal) := by
  unfold weights weight
  rw [diag_apply, twos_apply I p hI, ofBits_1]
  split_ifs <;> rfl

end Weights

/-! ## The loss -/

section Loss

variable (s : Fin 4096 → Fin 4096 → ℝ) (p : Fin 4096 → Fin 4 → Fin 4096)

/-- Logarithms of a matrix of positive reals over their rows' sums. -/
theorem logs_real (E : FVec Ideal S4096x4096 .f32) (f : Fin 4096 → Fin 4096 → ℝ) (hf : ∀ r c, 0 < f r c) (hE : ∀ r c, E (ix2 r c) = ((f r c : ℝ) : EReal))
    (r : Fin 4096) : logs E (ix2 r r) = ((Real.log (f r r) - Real.log (∑ k, f r k) : ℝ) : EReal) := by
  have hsum : 0 < ∑ k, f r k := Finset.sum_pos (fun k _ => hf r k) ⟨0, Finset.mem_univ _⟩
  rw [logs_apply, hE, Finset.sum_congr rfl fun k _ => hE r k, ← coe_sum, Ideal.div_coe hsum.ne', ← EReal.coe_mul, mul_one_div, Ideal.log_coe,
    if_neg (not_le.mpr (div_pos (hf r r) hsum)), Real.log_div (hf r r).ne' hsum.ne']

theorem meanLoss_real (L : FVec Ideal S4096x4096 .f32) (f : Fin 4096 → ℝ) (hL : ∀ r, L (ix2 r r) = ((f r : ℝ) : EReal)) :
    meanLoss L ix0 = ((-((∑ r, f r) / 4096) : ℝ) : EReal) := by
  rw [meanLoss_apply, Finset.sum_congr rfl fun r _ => hL r, ← coe_sum, ofBits_4096, Ideal.div_coe (by norm_num), ← EReal.coe_mul, mul_one_div, ← EReal.coe_neg]

/-- The reference's result, of real scores and the picked positions: the loss, in every lane. -/
theorem result_real (S : FVec Ideal S4096x4096 .f32) (I : IVec S4096x4 32) (hS : ∀ r c, S (ix2 r c) = ((s r c : ℝ) : EReal))
    (hI : ∀ r k, I (ix2 r k) = BitVec.ofNat 32 (p r k).val) : result S (weights I) = fun _ => ((loss s p : ℝ) : EReal) := by
  have hterm : ∀ r c, Ideal.exp (S (ix2 r c) * weights I (ix2 r c)) = ((term s p r c : ℝ) : EReal) := fun r c => by
    rw [hS, weights_apply I p hI, ← EReal.coe_mul, Ideal.exp_coe]
    rfl
  have hdiag : ∀ r, Real.log (term s p r r) = s r r := fun r => by
    unfold term weight
    rw [Real.log_exp, if_pos rfl, mul_one]
  have h1 := meanLoss_real (logs (terms S (weights I))) _ (logs_real (terms S (weights I)) (term s p) (fun r c => term_pos r c)
    (fun r c => (terms_apply _ _ r c).trans (hterm r c)))
  have h2 := meanLoss_real (logs (terms (flip S) (flip (weights I)))) _ (logs_real (terms (flip S) (flip (weights I))) (fun r c => term s p c r) (fun r c => term_pos c r)
    (fun r c => by rw [terms_apply, flip_apply, flip_apply]; exact hterm c r))
  funext j
  obtain ⟨l, rfl⟩ : ∃ l : Fin 128, j = ix2 0 l := by
    refine ⟨j 1, (eq_ix2 j).trans ?_⟩
    have : j 0 = (0 : Fin 1) := Subsingleton.elim (α := Fin 1) _ _
    rw [this]
  rw [result_apply, h1, h2, ← EReal.coe_add, ofBits_2, Ideal.div_coe (by norm_num), ← EReal.coe_mul, mul_one_div]
  refine congrArg Real.toEReal ?_
  unfold loss
  simp only [hdiag, Finset.sum_sub_distrib, ← Finset.mul_sum]
  ring

end Loss

/-- The reference's scores are the scores. -/
theorem scores_apply (a b : FVec Ideal S4096x512 .f32) (v t : Fin 4096 → Fin 512 → ℝ) (ha : ∀ r d, a (ix2 r d) = ((v r d : ℝ) : EReal))
    (hb : ∀ r d, b (ix2 r d) = ((t r d : ℝ) : EReal)) (r c : Fin 4096) : scores a b (ix2 r c) = ((score v t r c : ℝ) : EReal) := by
  rw [← score_eq]
  simp only [← ha, ← hb]
  pointwise [scores]

/-- It picks the four greatest off the diagonal. -/
theorem picked_apply (a b : FVec Ideal S4096x512 .f32) (v t : Fin 4096 → Fin 512 → ℝ) (ha : ∀ r d, a (ix2 r d) = ((v r d : ℝ) : EReal))
    (hb : ∀ r d, b (ix2 r d) = ((t r d : ℝ) : EReal)) (r : Fin 4096) (k : Fin 4) : picked a b (ix2 r k) = BitVec.ofNat 32 (hardest (score v t) r k).val := by
  refine topK_indices (score v t) (diag 0xCE6E6B28#32 (scores a b)) (fun r c => ?_) (by decide) _ r k
  rw [diag_apply, scores_apply a b v t ha hb, ofBits_fill]
  unfold filled
  split_ifs <;> rfl

/-- The reference's result: the loss of the scores with their hardest negatives, in every lane. -/
theorem reference_eq (m : (ℓ : Loc nD τ sig) → Buf (Elt Ideal) ℓ) (c : Dev nD) (v t : Fin 4096 → Fin 512 → ℝ)
    (hv : ∀ r d, m ((c.tc : Thread nD τ).loc main_arg0) (ix2 r d) = ((v r d : ℝ) : EReal))
    (ht : ∀ r d, m ((c.tc : Thread nD τ).loc main_arg1) (ix2 r d) = ((t r d : ℝ) : EReal)) :
    Cert.ReferenceIdeal.Value.res_main_v85 (F := Ideal) m c = fun _ => ((loss (score v t) (hardest (score v t)) : ℝ) : EReal) := by
  rw [result_eq]
  exact result_real _ _ _ _ (scores_apply _ _ v t hv ht) (picked_apply _ _ v t hv ht)

end Cert.Proof.Reference
-- ==== Proof.Equation.lean ====
/- The equation: under the precondition the reference's result is the kernel's, both the loss of the scores with their hardest
   negatives. -/
module

public import proofs.«01_k».proof.Defs
public import proofs.«01_k».proof.Proof.Total
public import proofs.«01_k».proof.Proof.Pre
public import proofs.«01_k».proof.Proof.Reference

@[expose] public section

noncomputable section

namespace Cert.Proof.Equation

open Idealize.ShloMosaic Idealize.ShloMosaic.TcCoe Idealize.SL.Sem Cert.Proof.Ranks Cert.Proof.Clear

/-- The first argument's entries as reals. -/
def first (m : (ℓ : Loc Cert.KernelIdeal.nD Cert.KernelIdeal.τ Cert.KernelIdeal.sig) → Buf (Elt Ideal) ℓ) (c : Dev Cert.KernelIdeal.nD)
    (r : Fin 4096) (d : Fin 512) : ℝ :=
  ((m ((c.tc : Thread Cert.KernelIdeal.nD Cert.KernelIdeal.τ).loc Cert.KernelIdeal.main_arg0) (ix2 r d) : EReal)).toReal

/-- The second argument's entries as reals. -/
def second (m : (ℓ : Loc Cert.KernelIdeal.nD Cert.KernelIdeal.τ Cert.KernelIdeal.sig) → Buf (Elt Ideal) ℓ) (c : Dev Cert.KernelIdeal.nD)
    (r : Fin 4096) (d : Fin 512) : ℝ :=
  ((m ((c.tc : Thread Cert.KernelIdeal.nD Cert.KernelIdeal.τ).loc Cert.KernelIdeal.main_arg1) (ix2 r d) : EReal)).toReal

/-- Under the precondition the kernel and the reference end with equal results. -/
theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_hard_negatives_clear (hPre_hard_negatives_clear := Cert.Proof.Pre.facts) m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Value.res_main_v85 (F := Ideal) m' c = Cert.KernelIdeal.Value.G2 (F := Ideal) m c := by
  letI := Cert.Proof.Pre.facts
  obtain ⟨p0, p1, p2, p3, p4⟩ := hpre c
  rw [Pre.fn_eq] at p0 p1 p2 p3 p4
  have hv : ∀ r d, m ((c.tc : Thread Cert.KernelIdeal.nD Cert.KernelIdeal.τ).loc Cert.KernelIdeal.main_arg0) (ix2 r d) = ((first m c r d : ℝ) : EReal) :=
    Pre.finite_apply _ p0
  have ht : ∀ r d, m ((c.tc : Thread Cert.KernelIdeal.nD Cert.KernelIdeal.τ).loc Cert.KernelIdeal.main_arg1) (ix2 r d) = ((second m c r d : ℝ) : EReal) :=
    Pre.finite_apply _ p1
  have hh := Pre.hard _ _ (first m c) (second m c) hv ht p2 p3 p4
  rw [Total.kernel_eq m c (first m c) (second m c) hv ht hh]
  exact Reference.reference_eq m' c (first m c) (second m c) (fun r d => by rw [h0]; exact hv r d) (fun r d => by rw [h1]; exact ht r d)

/-- The value claim. -/
theorem algebraic : Cert.algebraic_KernelIdeal_ReferenceIdeal_pre_hard_negatives_clear (hKernelIdeal := Cert.KernelIdeal.Gen.facts)
    (hReferenceIdeal := Cert.ReferenceIdeal.Gen.facts) (hPre_hard_negatives_clear := Cert.Proof.Pre.facts) := by
  intro m ρ m' ρ' hpre hagree
  refine ⟨_, Cert.KernelIdeal.Value.run (F := Ideal) m ρ, ?_⟩
  exact (θ_run Cert.ReferenceIdeal.defs _ _).mono (fun _ h c => ⟨(h c).1.trans (equal m m' hpre c (hagree c).1 (hagree c).2), (h c).2⟩)
    (Cert.ReferenceIdeal.Value.run (F := Ideal) m' ρ')

end Cert.Proof.Equation
-- ==== Proof.lean ====
/- The certificate: the kernel, its idealization and the reference run, keep their arguments and end quiescent; the
   idealization's named constant has its value; and under the precondition the idealized kernel's result is the reference's. -/
module

public import proofs.«01_k».proof.Defs
public import proofs.«01_k».proof.Proof.Frames
public import proofs.«01_k».proof.Proof.Equation

@[expose] public section

noncomputable section

namespace Cert.Proof

/-- Everything the certificate claims. -/
theorem claim : Cert.Claim :=
  ⟨Cert.Kernel.Gen.facts, Cert.KernelIdeal.Gen.facts, Cert.ReferenceIdeal.Gen.facts, Pre.facts,
    Frames.kernel, Frames.kernelIdeal, fun m ρ _ => Frames.kernelIdeal m ρ trivial, Frames.referenceIdeal,
    fun m ρ _ => Frames.referenceIdeal m ρ trivial, Frames.preserves, Equation.algebraic⟩

end Cert.Proof

end
